-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.shift_out.By16TwiceStatement Cert.KernelIdeal.S8x128
  ∧ IdealRules.fence.Statement Cert.KernelIdeal.S1x128
  ∧ IdealRules.shift_out.By16TwiceStatement Cert.KernelIdeal.S8x1024
  ∧ IdealRules.fence.Statement Cert.KernelIdeal.S1x1024

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_v295) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
-- ==== Pre_finite.lean ====
abbrev S8x2048x1024 : Shape := ⟨3, ![8, 2048, 1024]⟩
abbrev S1x1024 : Shape := ⟨2, ![1, 1024]⟩
abbrev S1x1024x8200 : Shape := ⟨3, ![1, 1024, 8200]⟩
abbrev S1x8 : Shape := ⟨2, ![1, 8]⟩
abbrev S1x31x1024 : Shape := ⟨3, ![1, 31, 1024]⟩
abbrev S_ : Shape := ⟨0, ![]⟩

class Facts : Prop where
  bcast_S_S8x2048x1024 : S_.BroadcastsInDim S8x2048x1024 (![] : Fin 0 → Fin S8x2048x1024.rank)
  bcast_S_S1x1024 : S_.BroadcastsInDim S1x1024 (![] : Fin 0 → Fin S1x1024.rank)
  bcast_S_S1x1024x8200 : S_.BroadcastsInDim S1x1024x8200 (![] : Fin 0 → Fin S1x1024x8200.rank)
  bcast_S_S1x31x1024 : S_.BroadcastsInDim S1x31x1024 (![] : Fin 0 → Fin S1x31x1024.rank)

variable [Facts]

def fn_part1 {F : FTy → Type} [FloatOps F] (main_arg7 : FVec F S1x1024 .f32) (main_v2 : IVec S8x2048x1024 1) (main_v5 : IVec S1x1024 1) (main_v8 : IVec S1x1024x8200 1) (main_v11 : IVec S1x31x1024 1) (main_v14 : IVec S1x1024 1) (main_v17 : IVec S1x1024 1) : IVec S8x2048x1024 1 × IVec S1x1024 1 × IVec S1x1024x8200 1 × IVec S1x31x1024 1 × IVec S1x1024 1 × IVec S1x1024 1 × IVec S1x1024 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8x2048x1024 .f32) (main_arg1 : FVec F S1x1024 .f32) (main_arg2 : FVec F S1x1024x8200 .f32) (main_arg3 : FVec F S1x8 .f32) (main_arg4 : FVec F S1x31x1024 .f32) (main_arg5 : FVec F S1x1024 .f32) (main_arg6 : FVec F S1x1024 .f32) (main_arg7 : FVec F S1x1024 .f32) : IVec S8x2048x1024 1 × IVec S1x1024 1 × IVec S1x1024x8200 1 × IVec S1x31x1024 1 × IVec S1x1024 1 × IVec S1x1024 1 × IVec S1x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x8200 .f32 := Host.absf main_arg2
  let main_cst_1 : FVec F S_ .f32 := constant S_ .f32 0x7F800000#32
  let main_v7 : FVec F S1x1024x8200 .f32 := broadcastInDim S1x1024x8200 ![] bcast_S_S1x1024x8200 main_cst_1
  let main_v8 : IVec S1x1024x8200 1 := cmpf .olt main_v6 main_v7
  let main_v9 : FVec F S1x31x1024 .f32 := Host.absf main_arg4
  let main_cst_2 : FVec F S_ .f32 := constant S_ .f32 0x7F800000#32
  let main_v10 : FVec F S1x31x1024 .f32 := broadcastInDim S1x31x1024 ![] bcast_S_S1x31x1024 main_cst_2
  let main_v11 : IVec S1x31x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg7 main_v2 main_v5 main_v8 main_v11 main_v14 main_v17
-- ==== Kernel.lean ====
abbrev S8x2048x1024 : Shape := ⟨3, ![8, 2048, 1024]⟩
abbrev S1x1024 : Shape := ⟨2, ![1, 1024]⟩
abbrev S1x1024x8200 : Shape := ⟨3, ![1, 1024, 8200]⟩
abbrev S1x8 : Shape := ⟨2, ![1, 8]⟩
abbrev S1x31x1024 : Shape := ⟨3, ![1, 31, 1024]⟩
abbrev S16384x1024 : Shape := ⟨2, ![16384, 1024]⟩
abbrev S1024x8200 : Shape := ⟨2, ![1024, 8200]⟩
abbrev S8200x1024 : Shape := ⟨2, ![8200, 1024]⟩
abbrev S1024 : Shape := ⟨1, ![1024]⟩
abbrev S8 : Shape := ⟨1, ![8]⟩
abbrev S8x1 : Shape := ⟨2, ![8, 1]⟩
abbrev S31x1024 : Shape := ⟨2, ![31, 1024]⟩
abbrev S16384x5120 : Shape := ⟨2, ![16384, 5120]⟩
abbrev S8x16384 : Shape := ⟨2, ![8, 16384]⟩
abbrev S512x1024 : Shape := ⟨2, ![512, 1024]⟩
abbrev S5120x1024 : Shape := ⟨2, ![5120, 1024]⟩
abbrev S3072x1024 : Shape := ⟨2, ![3072, 1024]⟩
abbrev S8x1024 : Shape := ⟨2, ![8, 1024]⟩
abbrev S512x5120 : Shape := ⟨2, ![512, 5120]⟩
abbrev S8x512 : Shape := ⟨2, ![8, 512]⟩
abbrev S512x2048 : Shape := ⟨2, ![512, 2048]⟩
abbrev S544x1024 : Shape := ⟨2, ![544, 1024]⟩
abbrev S512 : Shape := ⟨1, ![512]⟩
abbrev S512x1 : Shape := ⟨2, ![512, 1]⟩
abbrev S96x128 : Shape := ⟨2, ![96, 128]⟩
abbrev S1x128 : Shape := ⟨2, ![1, 128]⟩
abbrev S64x128 : Shape := ⟨2, ![64, 128]⟩
abbrev S8x128 : Shape := ⟨2, ![8, 128]⟩
abbrev S72x128 : Shape := ⟨2, ![72, 128]⟩
abbrev S1024x1024 : Shape := ⟨2, ![1024, 1024]⟩
abbrev S64x1024 : Shape := ⟨2, ![64, 1024]⟩
abbrev S64 : Shape := ⟨1, ![64]⟩
abbrev S64x1 : Shape := ⟨2, ![64, 1]⟩
abbrev S32x1024 : Shape := ⟨2, ![32, 1024]⟩

abbrev nBuf : Space → Nat
  | .hbm => 25
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8200, .f32⟩
  | .hbm, ⟨3, _⟩ => ⟨S1x8, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S1024x8200, .f32⟩
  | .hbm, ⟨10, _⟩ => ⟨S8200x1024, .f32⟩
  | .hbm, ⟨11, _⟩ => ⟨S1024, .f32⟩
  | .hbm, ⟨12, _⟩ => ⟨S1x1024, .f32⟩
  | .hbm, ⟨13, _⟩ => ⟨S8, .f32⟩
  | .hbm, ⟨14, _⟩ => ⟨S8x1, .f32⟩
  | .hbm, ⟨15, _⟩ => ⟨S31x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x5120, .bf16⟩
  | .hbm, ⟨23, _⟩ => ⟨S8x16384, .f32⟩
  | .hbm, ⟨24, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5120x1024, .f32⟩
  | .local _ .vmem, ⟨4, _⟩ => ⟨S3072x1024, .f32⟩
  | .local _ .vmem, ⟨5, _⟩ => ⟨S8x1024, .f32⟩
  | .local _ .vmem, ⟨6, _⟩ => ⟨S8x1, .f32⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x5120, .bf16⟩
  | .local _ .vmem, ⟨12, _⟩ => ⟨S512x5120, .bf16⟩
  | .local _ .vmem, ⟨13, _⟩ => ⟨S8x512, .f32⟩
  | .local _ .vmem, ⟨14, _⟩ => ⟨S8x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x1024, .bf16⟩
  | .local _ .vmem, ⟨20, _⟩ => ⟨S544x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [BitOps F]

abbrev grid0 : Pipeline.Grid := ⟨1, ![33], ![false]⟩

@[reducible] def k0_t1_loop (i : grid0.Coords) : Scf.Loop 32 :=
  let c0_i32_19 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let c1_i32_21 : BitVec 32 := 1#32
  ⟨c0_i32_19, v39, c1_i32_21⟩
@[reducible] def k0_t2_loop (i : grid0.Coords) : Scf.Loop 32 :=
  let c0_i32_19 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let v36 : BitVec 32 := Scalar.addi c0_i32_19 v35
  let c1_i32_22 : BitVec 32 := 1#32
  ⟨v39, v36, c1_i32_22⟩
@[reducible] def k0_t3_loop (i : grid0.Coords) : Scf.Loop 32 :=
  let c0_i32_24 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v40 : BitVec 32 := Scalar.subi v34 c0_i32_24
  let c1_i32_25 : BitVec 32 := 1#32
  let v42 : BitVec 32 := Scalar.divsi v40 c1_i32_25
  let v43 : BitVec 32 := Scalar.muli v42 c1_i32_25
  let v44 : BitVec 32 := Scalar.addi c0_i32_24 v43
  let c1_i32_26 : BitVec 32 := 1#32
  ⟨c0_i32_24, v44, c1_i32_26⟩
@[reducible] def k0_t4_loop (i : grid0.Coords) : Scf.Loop 32 :=
  let c0_i32_24 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v40 : BitVec 32 := Scalar.subi v34 c0_i32_24
  let c1_i32_25 : BitVec 32 := 1#32
  let v42 : BitVec 32 := Scalar.divsi v40 c1_i32_25
  let v43 : BitVec 32 := Scalar.muli v42 c1_i32_25
  let v44 : BitVec 32 := Scalar.addi c0_i32_24 v43
  let v41 : BitVec 32 := Scalar.addi c0_i32_24 v40
  let c1_i32_27 : BitVec 32 := 1#32
  ⟨v44, v41, c1_i32_27⟩
@[reducible] def k0_t5_loop (i : grid0.Coords) : Scf.Loop 32 :=
  let c0_i32_29 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v45 : BitVec 32 := Scalar.subi v34 c0_i32_29
  let c1_i32_30 : BitVec 32 := 1#32
  let v47 : BitVec 32 := Scalar.divsi v45 c1_i32_30
  let v48 : BitVec 32 := Scalar.muli v47 c1_i32_30
  let v49 : BitVec 32 := Scalar.addi c0_i32_29 v48
  let c1_i32_31 : BitVec 32 := 1#32
  ⟨c0_i32_29, v49, c1_i32_31⟩
@[reducible] def k0_t6_loop (i : grid0.Coords) : Scf.Loop 32 :=
  let c0_i32_29 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v45 : BitVec 32 := Scalar.subi v34 c0_i32_29
  let c1_i32_30 : BitVec 32 := 1#32
  let v47 : BitVec 32 := Scalar.divsi v45 c1_i32_30
  let v48 : BitVec 32 := Scalar.muli v47 c1_i32_30
  let v49 : BitVec 32 := Scalar.addi c0_i32_29 v48
  let v46 : BitVec 32 := Scalar.addi c0_i32_29 v45
  let c1_i32_32 : BitVec 32 := 1#32
  ⟨v49, v46, c1_i32_32⟩
@[reducible] def k0_t7_loop (i : grid0.Coords) : Scf.Loop 32 :=
  let c0_i32_34 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v50 : BitVec 32 := Scalar.subi v34 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_36 : BitVec 32 := 1#32
  ⟨c0_i32_34, v54, c1_i32_36⟩
@[reducible] def k0_t8_loop (i : grid0.Coords) : Scf.Loop 32 :=
  let c0_i32_34 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v50 : BitVec 32 := Scalar.subi v34 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let v51 : BitVec 32 := Scalar.addi c0_i32_34 v50
  let c1_i32_37 : BitVec 32 := 1#32
  ⟨v54, v51, c1_i32_37⟩
@[reducible] def k0_t9_loop (i : grid0.Coords) : Scf.Loop 32 :=
  let c0_i32_39 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v55 : BitVec 32 := Scalar.subi v34 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_41 : BitVec 32 := 1#32
  ⟨c0_i32_39, v59, c1_i32_41⟩
@[reducible] def k0_t10_loop (i : grid0.Coords) : Scf.Loop 32 :=
  let c0_i32_39 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v55 : BitVec 32 := Scalar.subi v34 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let v56 : BitVec 32 := Scalar.addi c0_i32_39 v55
  let c1_i32_42 : BitVec 32 := 1#32
  ⟨v59, v56, c1_i32_42⟩
@[reducible] def k0_t11_loop (i : grid0.Coords) : Scf.Loop 32 :=
  let c0_i32_44 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v60 : BitVec 32 := Scalar.subi v34 c0_i32_44
  let c1_i32_45 : BitVec 32 := 1#32
  let v62 : BitVec 32 := Scalar.divsi v60 c1_i32_45
  let v63 : BitVec 32 := Scalar.muli v62 c1_i32_45
  let v64 : BitVec 32 := Scalar.addi c0_i32_44 v63
  let c1_i32_46 : BitVec 32 := 1#32
  ⟨c0_i32_44, v64, c1_i32_46⟩
@[reducible] def k0_t12_loop (i : grid0.Coords) : Scf.Loop 32 :=
  let c0_i32_44 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v60 : BitVec 32 := Scalar.subi v34 c0_i32_44
  let c1_i32_45 : BitVec 32 := 1#32
  let v62 : BitVec 32 := Scalar.divsi v60 c1_i32_45
  let v63 : BitVec 32 := Scalar.muli v62 c1_i32_45
  let v64 : BitVec 32 := Scalar.addi c0_i32_44 v63
  let v61 : BitVec 32 := Scalar.addi c0_i32_44 v60
  let c1_i32_47 : BitVec 32 := 1#32
  ⟨v64, v61, c1_i32_47⟩
@[reducible] def k0_t13_loop (i : grid0.Coords) : Scf.Loop 32 :=
  let c0_i32_49 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v65 : BitVec 32 := Scalar.subi v34 c0_i32_49
  let c1_i32_50 : BitVec 32 := 1#32
  let v67 : BitVec 32 := Scalar.divsi v65 c1_i32_50
  let v68 : BitVec 32 := Scalar.muli v67 c1_i32_50
  let v69 : BitVec 32 := Scalar.addi c0_i32_49 v68
  let c1_i32_51 : BitVec 32 := 1#32
  ⟨c0_i32_49, v69, c1_i32_51⟩
@[reducible] def k0_t14_loop (i : grid0.Coords) : Scf.Loop 32 :=
  let c0_i32_49 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v65 : BitVec 32 := Scalar.subi v34 c0_i32_49
  let c1_i32_50 : BitVec 32 := 1#32
  let v67 : BitVec 32 := Scalar.divsi v65 c1_i32_50
  let v68 : BitVec 32 := Scalar.muli v67 c1_i32_50
  let v69 : BitVec 32 := Scalar.addi c0_i32_49 v68
  let v66 : BitVec 32 := Scalar.addi c0_i32_49 v65
  let c1_i32_52 : BitVec 32 := 1#32
  ⟨v69, v66, c1_i32_52⟩
@[reducible] def k0_t15_loop (i : grid0.Coords) : Scf.Loop 32 :=
  let c0_i32_54 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v70 : BitVec 32 := Scalar.subi v34 c0_i32_54
  let c1_i32_55 : BitVec 32 := 1#32
  let v72 : BitVec 32 := Scalar.divsi v70 c1_i32_55
  let v73 : BitVec 32 := Scalar.muli v72 c1_i32_55
  let v74 : BitVec 32 := Scalar.addi c0_i32_54 v73
  let c1_i32_56 : BitVec 32 := 1#32
  ⟨c0_i32_54, v74, c1_i32_56⟩
@[reducible] def k0_t16_loop (i : grid0.Coords) : Scf.Loop 32 :=
  let c0_i32_54 : BitVec 32 := 0#32
  let arg0 : BitVec 32 := BitVec.ofNat 32 (i 0).val
  let c0_i32_17 : BitVec 32 := 0#32
  let v33 : BitVec 32 := Scalar.minsi arg0 c0_i32_17
  let c1_i32 : BitVec 32 := 1#32
  let v34 : BitVec 32 := Scalar.addi v33 c1_i32
  let v70 : BitVec 32 := Scalar.subi v34 c0_i32_54
  let c1_i32_55 : BitVec 32 := 1#32
  let v72 : BitVec 32 := Scalar.divsi v70 c1_i32_55
  let v73 : BitVec 32 := Scalar.muli v72 c1_i32_55
  let v74 : BitVec 32 := Scalar.addi c0_i32_54 v73
  let v71 : BitVec 32 := Scalar.addi c0_i32_54 v70
  let c1_i32_57 : BitVec 32 := 1#32
  ⟨v74, v71, c1_i32_57⟩
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c5128_i32 : BitVec 32 := 5128#32
  let c0_i32 : BitVec 32 := 0#32
  let c0_i32_0 : BitVec 32 := 0#32
  ![c5128_i32.toNat, c0_i32.toNat]

def cc0_transform_4 (i : grid0.Coords) : Fin 2 → Nat :=
  let arg0 : BitVec 32 := BitVec.ofNat 32 (i 0).val
  let c5120_i32 : BitVec 32 := 5120#32
  let c0_i32 : BitVec 32 := 0#32
  let c0_i32_0 : BitVec 32 := 0#32
  ![c5120_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x5120 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F]
-- ==== ReferenceIdeal.lean ====
abbrev S8x2048x1024 : Shape := ⟨3, ![8, 2048, 1024]⟩
abbrev S1x1024 : Shape := ⟨2, ![1, 1024]⟩
abbrev S1x1024x8200 : Shape := ⟨3, ![1, 1024, 8200]⟩
abbrev S1x8 : Shape := ⟨2, ![1, 8]⟩
abbrev S1x31x1024 : Shape := ⟨3, ![1, 31, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x8200 : Shape := ⟨2, ![1024, 8200]⟩
abbrev S8x2048x8200 : Shape := ⟨3, ![8, 2048, 8200]⟩
abbrev S8x2048x5120 : Shape := ⟨3, ![8, 2048, 5120]⟩
abbrev S8x2048x4 : Shape := ⟨3, ![8, 2048, 4]⟩
abbrev S1x4 : Shape := ⟨2, ![1, 4]⟩
abbrev S4 : Shape := ⟨1, ![4]⟩
abbrev S1x1x4 : Shape := ⟨3, ![1, 1, 4]⟩
abbrev S8x2078x1024 : Shape := ⟨3, ![8, 2078, 1024]⟩
abbrev S8x2048x8 : Shape := ⟨3, ![8, 2048, 8]⟩
abbrev S16384x5120 : Shape := ⟨2, ![16384, 5120]⟩
abbrev S16384x8 : Shape := ⟨2, ![16384, 8]⟩
abbrev S8x16384 : Shape := ⟨2, ![8, 16384]⟩
abbrev S16384x1024 : Shape := ⟨2, ![16384, 1024]⟩

abbrev nBuf : Space → Nat
  | .hbm => 333
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x8200, .f32⟩
  | 3 => ⟨S1x8, .f32⟩
  | 4 => ⟨S1x31x1024, .f32⟩
  | 5 => ⟨S1x1024, .f32⟩
  | 6 => ⟨S1x1024, .f32⟩
  | 7 => ⟨S1x1024, .f32⟩
  | 8 => ⟨S1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S1024x8200, .f32⟩
  | 26 => ⟨S8x2048x8200, .f32⟩
  | 27 => ⟨S8x2048x5120, .f32⟩
  | 28 => ⟨S8x2048x4, .f32⟩
  | 29 => ⟨S8x2048x4, .f32⟩
  | 30 => ⟨S8x2048x1024, .f32⟩
  | 31 => ⟨S8x2048x1024, .f32⟩
  | 32 => ⟨S8x2048x1024, .f32⟩
  | 33 => ⟨S1x4, .f32⟩
  | 34 => ⟨S4, .f32⟩
  | 35 => ⟨S1x1x4, .f32⟩
  | 36 => ⟨S8x2048x4, .f32⟩
  | 37 => ⟨S8x2048x4, .f32⟩
  | 38 => ⟨S1x4, .f32⟩
  | 39 => ⟨S4, .f32⟩
  | 40 => ⟨S1x1x4, .f32⟩
  | 41 => ⟨S8x2048x4, .f32⟩
  | 42 => ⟨S8x2048x4, .f32⟩
  | 43 => ⟨S8x2048x1024, .f32⟩
  | 44 => ⟨S8x2048x1024, .f32⟩
  | 45 => ⟨S_, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S8x2048x1024, .f32⟩
  | 52 => ⟨S_, .i32⟩
  | 53 => ⟨S_, .f32⟩
  | 54 => ⟨S8x2078x1024, .f32⟩
  | 55 => ⟨S8x2048x1024, .f32⟩
  | 56 => ⟨S1x1x1024, .f32⟩
  | 57 => ⟨S1024, .f32⟩
  | 58 => ⟨S1x1x1024, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S8x2048x1024, .f32⟩
  | 65 => ⟨S1x1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S1x1x1024, .f32⟩
  | 101 => ⟨S1024, .f32⟩
  | 102 => ⟨S1x1x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S1x1x1024, .f32⟩
  | 108 => ⟨S1024, .f32⟩
  | 109 => ⟨S1x1x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S1x1x1024, .f32⟩
  | 115 => ⟨S1024, .f32⟩
  | 116 => ⟨S1x1x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1x1024, .f32⟩
  | 122 => ⟨S1024, .f32⟩
  | 123 => ⟨S1x1x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S1x1x1024, .f32⟩
  | 1 => ⟨S1024, .f32⟩
  | 2 => ⟨S1x1x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S1x1x1024, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S1x1x1024, .f32⟩
  | 15 => ⟨S1024, .f32⟩
  | 16 => ⟨S1x1x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S1x1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S8x2048x1024, .f32⟩
  | 28 => ⟨S1x1x1024, .f32⟩
  | 29 => ⟨S1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S1x1x1024, .f32⟩
  | 36 => ⟨S1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1x1024, .f32⟩
  | 43 => ⟨S1024, .f32⟩
  | 44 => ⟨S1x1x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S1x1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S1x1x1024, .f32⟩
  | 57 => ⟨S1024, .f32⟩
  | 58 => ⟨S1x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1x1024, .f32⟩
  | 64 => ⟨S1024, .f32⟩
  | 65 => ⟨S1x1x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S1x1x1024, .f32⟩
  | 71 => ⟨S1024, .f32⟩
  | 72 => ⟨S1x1x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S1x1x1024, .f32⟩
  | 78 => ⟨S1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S1x1x1024, .f32⟩
  | 85 => ⟨S1024, .f32⟩
  | 86 => ⟨S1x1x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S1x1x1024, .f32⟩
  | 92 => ⟨S1024, .f32⟩
  | 93 => ⟨S1x1x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1x1024, .f32⟩
  | 99 => ⟨S1024, .f32⟩
  | 100 => ⟨S1x1x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S1x1x1024, .f32⟩
  | 106 => ⟨S1024, .f32⟩
  | 107 => ⟨S1x1x1024, .f32⟩
  | 108 => ⟨S8x2048x1024, .f32⟩
  | 109 => ⟨S8x2048x1024, .f32⟩
  | 110 => ⟨S8x2048x1024, .f32⟩
  | 111 => ⟨S8x2048x1024, .f32⟩
  | 112 => ⟨S1x1x1024, .f32⟩
  | 113 => ⟨S1024, .f32⟩
  | 114 => ⟨S1x1x1024, .f32⟩
  | 115 => ⟨S8x2048x1024, .f32⟩
  | 116 => ⟨S8x2048x1024, .f32⟩
  | 117 => ⟨S8x2048x1024, .f32⟩
  | 118 => ⟨S8x2048x1024, .f32⟩
  | 119 => ⟨S1x1x1024, .f32⟩
  | 120 => ⟨S1024, .f32⟩
  | 121 => ⟨S1x1x1024, .f32⟩
  | 122 => ⟨S8x2048x1024, .f32⟩
  | 123 => ⟨S8x2048x1024, .f32⟩
  | 124 => ⟨S8x2048x1024, .f32⟩
  | 125 => ⟨S8x2048x1024, .f32⟩
  | 126 => ⟨S1x1x1024, .f32⟩
  | 127 => ⟨S1024, .f32⟩
  | _ => ⟨S8x2048x1024, .f32⟩

abbrev hbmTy0_2 (i : Nat) : BufTy := match i % 128 with
  | 0 => ⟨S1x1x1024, .f32⟩
  | 1 => ⟨S8x2048x1024, .f32⟩
  | 2 => ⟨S8x2048x1024, .f32⟩
  | 3 => ⟨S8x2048x1024, .f32⟩
  | 4 => ⟨S8x2048x1024, .f32⟩
  | 5 => ⟨S1x1x1024, .f32⟩
  | 6 => ⟨S1024, .f32⟩
  | 7 => ⟨S1x1x1024, .f32⟩
  | 8 => ⟨S8x2048x1024, .f32⟩
  | 9 => ⟨S8x2048x1024, .f32⟩
  | 10 => ⟨S8x2048x1024, .f32⟩
  | 11 => ⟨S8x2048x1024, .f32⟩
  | 12 => ⟨S1x1x1024, .f32⟩
  | 13 => ⟨S1024, .f32⟩
  | 14 => ⟨S1x1x1024, .f32⟩
  | 15 => ⟨S8x2048x1024, .f32⟩
  | 16 => ⟨S8x2048x1024, .f32⟩
  | 17 => ⟨S8x2048x1024, .f32⟩
  | 18 => ⟨S1024, .f32⟩
  | 19 => ⟨S1x1x1024, .f32⟩
  | 20 => ⟨S8x2048x1024, .f32⟩
  | 21 => ⟨S8x2048x1024, .f32⟩
  | 22 => ⟨S1024, .f32⟩
  | 23 => ⟨S1024, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S8x2048x1024, .f32⟩
  | 31 => ⟨S8x2048x1024, .f32⟩
  | 32 => ⟨S8x2048x1024, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S_, .f32⟩
  | 40 => ⟨S8x2048x1, .f32⟩
  | 41 => ⟨S8x2048x1, .f32⟩
  | 42 => ⟨S8x2048x1, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S_, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S_, .f32⟩
  | 63 => ⟨S8x2048x1024, .f32⟩
  | 64 => ⟨S8x2048x1024, .f32⟩
  | 65 => ⟨S_, .f32⟩
  | 66 => ⟨S8x2048x1024, .f32⟩
  | 67 => ⟨S8x2048x1024, .f32⟩
  | 68 => ⟨S8x2048x1024, .f32⟩
  | 69 => ⟨S8x2048x1024, .f32⟩
  | 70 => ⟨S8x2048x8, .f32⟩
  | 71 => ⟨S8x2048x5120, .bf16⟩
  | 72 => ⟨S16384x5120, .bf16⟩
  | 73 => ⟨S16384x8, .f32⟩
  | 74 => ⟨S8x16384, .f32⟩
  | 75 => ⟨S8x2048x1024, .bf16⟩
  | 76 => ⟨S16384x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_cst_5 : Ref sig .tc := ⟨.hbm, 280, rfl⟩
abbrev main_v264 : Ref sig .tc := ⟨.hbm, 281, rfl⟩
abbrev main_v265 : Ref sig .tc := ⟨.hbm, 282, rfl⟩
abbrev main_cst_6 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_cst_7 : Ref sig .tc := ⟨.hbm, 289, rfl⟩
abbrev main_v271 : Ref sig .tc := ⟨.hbm, 290, rfl⟩
abbrev main_v272 : Ref sig .tc := ⟨.hbm, 291, rfl⟩
abbrev main_cst_8 : Ref sig .tc := ⟨.hbm, 292, rfl⟩
abbrev main_v273 : Ref sig .tc := ⟨.hbm, 293, rfl⟩
abbrev main_v274 : Ref sig .tc := ⟨.hbm, 294, rfl⟩
abbrev main_cst_9 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_call1_v0 : Ref sig .tc := ⟨.hbm, 307, rfl⟩
abbrev main_call1_v1 : Ref sig .tc := ⟨.hbm, 308, rfl⟩
abbrev main_call1_cst : Ref sig .tc := ⟨.hbm, 309, rfl⟩
abbrev main_call1_v2 : Ref sig .tc := ⟨.hbm, 310, rfl⟩
abbrev main_call1_v3 : Ref sig .tc := ⟨.hbm, 311, rfl⟩
abbrev main_call1_cst_0 : Ref sig .tc := ⟨.hbm, 312, rfl⟩
abbrev main_call1_v4 : Ref sig .tc := ⟨.hbm, 313, rfl⟩
abbrev main_call1_v5 : Ref sig .tc := ⟨.hbm, 314, rfl⟩
abbrev main_v286 : Ref sig .tc := ⟨.hbm, 315, rfl⟩
abbrev main_call2_v0 : Ref sig .tc := ⟨.hbm, 316, rfl⟩
abbrev main_call2_v1 : Ref sig .tc := ⟨.hbm, 317, rfl⟩
abbrev main_call2_cst : Ref sig .tc := ⟨.hbm, 318, rfl⟩
abbrev main_call2_v2 : Ref sig .tc := ⟨.hbm, 319, rfl⟩
abbrev main_call2_v3 : Ref sig .tc := ⟨.hbm, 320, rfl⟩
abbrev main_call2_cst_0 : Ref sig .tc := ⟨.hbm, 321, rfl⟩
abbrev main_call2_v4 : Ref sig .tc := ⟨.hbm, 322, rfl⟩
abbrev main_call2_v5 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩

abbrev nD : Nat := 1
abbrev τ : Topo := Topo.v7x

variable {F : FTy → Type} [FloatOps F]
-- ==== Kernel2.lean ====
abbrev S16384x5120 : Shape := ⟨2, ![16384, 5120]⟩
abbrev S8x16384 : Shape := ⟨2, ![8, 16384]⟩
abbrev S1x1024 : Shape := ⟨2, ![1, 1024]⟩
abbrev S8x2048x1024 : Shape := ⟨3, ![8, 2048, 1024]⟩
abbrev S16384x1024 : Shape := ⟨2, ![16384, 1024]⟩
abbrev S1x2048x1024 : Shape := ⟨3, ![1, 2048, 1024]⟩
abbrev S1024 : Shape := ⟨1, ![1024]⟩
abbrev S2048x1024 : Shape := ⟨2, ![2048, 1024]⟩
abbrev S1024x1024 : Shape := ⟨2, ![1024, 1024]⟩
abbrev S256x1024 : Shape := ⟨2, ![256, 1024]⟩
abbrev S8x256 : Shape := ⟨2, ![8, 256]⟩
abbrev S4x256x256 : Shape := ⟨3, ![4, 256, 256]⟩
abbrev S2x256x1024 : Shape := ⟨3, ![2, 256, 1024]⟩
abbrev S256x128 : Shape := ⟨2, ![256, 128]⟩
abbrev S2x8x128 : Shape := ⟨3, ![2, 8, 128]⟩
abbrev S4x1 : Shape := ⟨2, ![4, 1]⟩
abbrev S256x256 : Shape := ⟨2, ![256, 256]⟩
abbrev S24x256 : Shape := ⟨2, ![24, 256]⟩
abbrev S4x256 : Shape := ⟨2, ![4, 256]⟩
abbrev S4 : Shape := ⟨1, ![4]⟩
abbrev S256x8 : Shape := ⟨2, ![256, 8]⟩
abbrev S256x24 : Shape := ⟨2, ![256, 24]⟩
abbrev S4x128 : Shape := ⟨2, ![4, 128]⟩
abbrev S1x4x128 : Shape := ⟨3, ![1, 4, 128]⟩
abbrev S1x256x256 : Shape := ⟨3, ![1, 256, 256]⟩
abbrev S1x4x1 : Shape := ⟨3, ![1, 4, 1]⟩
abbrev S1x256 : Shape := ⟨2, ![1, 256]⟩
abbrev S256 : Shape := ⟨1, ![256]⟩
abbrev S256x1 : Shape := ⟨2, ![256, 1]⟩
abbrev S1x256x1024 : Shape := ⟨3, ![1, 256, 1024]⟩
abbrev S1024x256 : Shape := ⟨2, ![1024, 256]⟩
abbrev S8x1024 : Shape := ⟨2, ![8, 1024]⟩
abbrev S1x1 : Shape := ⟨2, ![1, 1]⟩

abbrev nBuf : Space → Nat
  | .hbm => 16
  | .vmem => 35
  | .smem => 0
  | _ => 0

abbrev bufTy : (tb : Table) → Fin (tcTables nBuf tb) → BufTy
  | .hbm, ⟨0, _⟩ => ⟨S16384x5120, .bf16⟩
  | .hbm, ⟨1, _⟩ => ⟨S8x16384, .f32⟩
  | .hbm, ⟨2, _⟩ => ⟨S1x1024, .f32⟩
  | .hbm, ⟨3, _⟩ => ⟨S8x2048x1024, .f32⟩
  | .hbm, ⟨4, _⟩ => ⟨S16384x1024, .bf16⟩
  | .hbm, ⟨5, _⟩ => ⟨S1x2048x1024, .f32⟩
  | .hbm, ⟨6, _⟩ => ⟨S1024, .f32⟩
  | .hbm, ⟨7, _⟩ => ⟨S2048x1024, .f32⟩
  | .hbm, ⟨8, _⟩ => ⟨S2048x1024, .bf16⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x256, .f32⟩
  | .local _ .vmem, ⟨11, _⟩ => ⟨S8x256, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x256, .f32⟩
  | .local _ .vmem, ⟨17, _⟩ => ⟨S8x256, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S4x256x256, .f32⟩
  | .local _ .vmem, ⟨29, _⟩ => ⟨S8x256, .f32⟩
  | .local _ .vmem, ⟨30, _⟩ => ⟨S2x256x1024, .bf16⟩
  | .local _ .vmem, ⟨31, _⟩ => ⟨S8x256, .f32⟩
  | .local _ .vmem, ⟨32, _⟩ => ⟨S256x128, .f32⟩
  | .local _ .vmem, ⟨33, _⟩ => ⟨S2x8x128, .f32⟩
  | .local _ .vmem, ⟨34, _⟩ => ⟨S4x256x256, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v285 : Index := Scalar.indexCast v10
  let c0_139 : Index := 0#32
  let c0_140 : Index := 0#32
  ![v285.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v642 : Index := Scalar.indexCast v9
  let c0_292 : Index := 0#32
  let c0_293 : Index := 0#32
  ![v642.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v652 : Index := Scalar.indexCast v9
  let c0_299 : Index := 0#32
  let c256_300 : Index := 256#32
  ![v652.toNat, 0, 256]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v662 : Index := Scalar.indexCast v9
  let c0_306 : Index := 0#32
  let c512_307 : Index := 512#32
  ![v662.toNat, 0, 512]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v672 : Index := Scalar.indexCast v9
  let c0_313 : Index := 0#32
  let c768_314 : Index := 768#32
  ![v672.toNat, 0, 768]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c2_i32 : BitVec 32 := 2#32
  let c0_i32_0 : BitVec 32 := 0#32
  ![v1.toNat, c2_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c3_i32 : BitVec 32 := 3#32
  let c0_i32_0 : BitVec 32 := 0#32
  ![v1.toNat, c3_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c4_i32 : BitVec 32 := 4#32
  let c0_i32_0 : BitVec 32 := 0#32
  ![v1.toNat, c4_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c63_i32 : BitVec 32 := 63#32
  let v1 : BitVec 32 := Scalar.minsi v0 c63_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c1_i32_0 : BitVec 32 := 1#32
  let c0_i32 : BitVec 32 := 0#32
  ![v1.toNat, c1_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x5120 : Shape := ⟨2, ![16384, 5120]⟩
abbrev S8x16384 : Shape := ⟨2, ![8, 16384]⟩
abbrev S1x1024 : Shape := ⟨2, ![1, 1024]⟩
abbrev S8x2048x1024 : Shape := ⟨3, ![8, 2048, 1024]⟩
abbrev S16384x1024 : Shape := ⟨2, ![16384, 1024]⟩
abbrev S1x2048x1024 : Shape := ⟨3, ![1, 2048, 1024]⟩
abbrev S1024 : Shape := ⟨1, ![1024]⟩
abbrev S8x2048x5120 : Shape := ⟨3, ![8, 2048, 5120]⟩
abbrev S8x2048x4x256 : Shape := ⟨4, ![8, 2048, 4, 256]⟩
abbrev S2x4x8x2048 : Shape := ⟨4, ![2, 4, 8, 2048]⟩
abbrev S1x4x8x2048 : Shape := ⟨4, ![1, 4, 8, 2048]⟩
abbrev S4x8x2048 : Shape := ⟨3, ![4, 8, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x256x2048 : Shape := ⟨4, ![8, 4, 256, 2048]⟩
abbrev S8x2048x4 : Shape := ⟨3, ![8, 2048, 4]⟩
abbrev S8x2048x4x1 : Shape := ⟨4, ![8, 2048, 4, 1]⟩
abbrev S1x1x1024 : Shape := ⟨3, ![1, 1, 1024]⟩
abbrev S8x2048x2048 : Shape := ⟨3, ![8, 2048, 2048]⟩
abbrev S2048x1024 : Shape := ⟨2, ![2048, 1024]⟩
abbrev S8x2048 : Shape := ⟨2, ![8, 2048]⟩
abbrev S8x2048x1 : Shape := ⟨3, ![8, 2048, 1]⟩

abbrev nBuf : Space → Nat
  | .hbm => 140
  | .vmem => 0
  | .smem => 0
  | _ => 0

abbrev hbmTy0_0 (i : Nat) : BufTy := match i % 128 with
  | 0 => ⟨S16384x5120, .bf16⟩
  | 1 => ⟨S8x16384, .f32⟩
  | 2 => ⟨S1x1024, .f32⟩
  | 3 => ⟨S8x2048x1024, .f32⟩
  | 4 => ⟨S16384x1024, .bf16⟩
  | 5 => ⟨S1x2048x1024, .f32⟩
  | 6 => ⟨S1024, .f32⟩
  | 7 => ⟨S16384x5120, .f32⟩
  | 8 => ⟨S8x2048x5120, .f32⟩
  | 9 => ⟨S8x2048x1024, .f32⟩
  | 10 => ⟨S8x2048x4x256, .f32⟩
  | 11 => ⟨S8x2048x1024, .f32⟩
  | 12 => ⟨S8x2048x4x256, .f32⟩
  | 13 => ⟨S8x2048x1024, .f32⟩
  | 14 => ⟨S8x2048x4x256, .f32⟩
  | 15 => ⟨S8x2048x1024, .f32⟩
  | 16 => ⟨S8x2048x1024, .f32⟩
  | 17 => ⟨S2x4x8x2048, .f32⟩
  | 18 => ⟨S1x4x8x2048, .f32⟩
  | 19 => ⟨S4x8x2048, .f32⟩
  | 20 => ⟨S4x8x2048, .f32⟩
  | 21 => ⟨S_, .f32⟩
  | 22 => ⟨S4x8x2048, .f32⟩
  | 23 => ⟨S4x8x2048, .f32⟩
  | 24 => ⟨S4x8x2048, .f32⟩
  | 25 => ⟨S4x8x2048, .f32⟩
  | 26 => ⟨S4x8x2048, .i1⟩
  | 27 => ⟨S4x8x2048, .f32⟩
  | 28 => ⟨S4x8x2048, .f32⟩
  | 29 => ⟨S4x8x2048, .f32⟩
  | 30 => ⟨S4x8x2048, .f32⟩
  | 31 => ⟨S4x8x2048, .f32⟩
  | 32 => ⟨S4x8x2048, .f32⟩
  | 33 => ⟨S4x8x2048, .f32⟩
  | 34 => ⟨S4x8x2048, .f32⟩
  | 35 => ⟨S4x8x2048, .f32⟩
  | 36 => ⟨S_, .f32⟩
  | 37 => ⟨S_, .f32⟩
  | 38 => ⟨S4x8x2048, .f32⟩
  | 39 => ⟨S4x8x2048x1, .f32⟩
  | 40 => ⟨S4x8x1x2048, .f32⟩
  | 41 => ⟨S4x8x2048x2048, .f32⟩
  | 42 => ⟨S4x8x2048x2048, .f32⟩
  | 43 => ⟨S4x8x2048x2048, .f32⟩
  | 44 => ⟨S1x4x8x2048, .f32⟩
  | 45 => ⟨S4x8x2048, .f32⟩
  | 46 => ⟨S4x8x1x2048, .f32⟩
  | 47 => ⟨S4x8x2048x2048, .f32⟩
  | 48 => ⟨S4x8x2048x2048, .f32⟩
  | 49 => ⟨S4x8x2048x2048, .f32⟩
  | 50 => ⟨S2048, .i32⟩
  | 51 => ⟨S1x2048, .i32⟩
  | 52 => ⟨S2048, .i32⟩
  | 53 => ⟨S2048x1, .i32⟩
  | 54 => ⟨S2048x2048, .i32⟩
  | 55 => ⟨S2048x2048, .i32⟩
  | 56 => ⟨S2048x2048, .i1⟩
  | 57 => ⟨S_, .f32⟩
  | 58 => ⟨S_, .f32⟩
  | 59 => ⟨S4x8x2048x2048, .i1⟩
  | 60 => ⟨S4x8x2048x2048, .f32⟩
  | 61 => ⟨S4x8x2048x2048, .f32⟩
  | 62 => ⟨S_, .f32⟩
  | 63 => ⟨S8x2048x4x256, .f32⟩
  | 64 => ⟨S8x2048x4x256, .f32⟩
  | 65 => ⟨S4x8x2048x2048, .f32⟩
  | 66 => ⟨S4x8x2048x2048, .f32⟩
  | 67 => ⟨S8x4x256x2048, .f32⟩
  | 68 => ⟨S8x2048x4x256, .f32⟩
  | 69 => ⟨S_, .f32⟩
  | 70 => ⟨S4x8x2048, .f32⟩
  | 71 => ⟨S4x8x2048, .f32⟩
  | 72 => ⟨S_, .f32⟩
  | 73 => ⟨S4x8x2048, .f32⟩
  | 74 => ⟨S4x8x2048, .f32⟩
  | 75 => ⟨S8x2048x4, .f32⟩
  | 76 => ⟨S8x2048x4x1, .f32⟩
  | 77 => ⟨S8x2048x4x256, .f32⟩
  | 78 => ⟨S8x2048x4x256, .f32⟩
  | 79 => ⟨S8x2048x1024, .f32⟩
  | 80 => ⟨S8x2048x1024, .f32⟩
  | 81 => ⟨S_, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S8x2048x4x256, .f32⟩
  | 88 => ⟨S8x2048x4x256, .f32⟩
  | 89 => ⟨S8x2048x4x256, .f32⟩
  | 90 => ⟨S_, .f32⟩
  | 91 => ⟨S8x2048x4, .f32⟩
  | 92 => ⟨S8x2048x4x1, .f32⟩
  | 93 => ⟨S_, .f32⟩
  | 94 => ⟨S8x2048x4x1, .f32⟩
  | 95 => ⟨S8x2048x4x1, .f32⟩
  | 96 => ⟨S_, .f32⟩
  | 97 => ⟨S8x2048x4x1, .f32⟩
  | 98 => ⟨S8x2048x4x1, .f32⟩
  | 99 => ⟨S8x2048x4x1, .f32⟩
  | 100 => ⟨S8x2048x4x256, .f32⟩
  | 101 => ⟨S8x2048x4x256, .f32⟩
  | 102 => ⟨S8x2048x1024, .f32⟩
  | 103 => ⟨S1024, .f32⟩
  | 104 => ⟨S1x1x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S_, .f32⟩
  | 110 => ⟨S8x2048x1024, .f32⟩
  | 111 => ⟨S8x2048x1024, .f32⟩
  | 112 => ⟨S_, .f32⟩
  | 113 => ⟨S8x2048x1024, .f32⟩
  | 114 => ⟨S8x2048x1024, .f32⟩
  | 115 => ⟨S8x2048x1024, .f32⟩
  | 116 => ⟨S8x2048x1024, .f32⟩
  | 117 => ⟨S16384x1024, .f32⟩
  | 118 => ⟨S8x2048x1024, .f32⟩
  | 119 => ⟨S8x2048x2048, .f32⟩
  | 120 => ⟨S2048x1024, .f32⟩
  | 121 => ⟨S8x2048x1024, .f32⟩
  | 122 => ⟨S8x2048x1024, .f32⟩
  | 123 => ⟨S8x2048x1024, .f32⟩
  | 124 => ⟨S_, .f32⟩
  | 125 => ⟨S8x2048, .f32⟩
  | 126 => ⟨S8x2048x1, .f32⟩
  | 127 => ⟨S_, .f32⟩
  | _ => ⟨S16384x5120, .bf16⟩

abbrev hbmTy0_1 (i : Nat) : BufTy := match i % 128 with
  | 0 => ⟨S8x2048x1, .f32⟩
  | 1 => ⟨S8x2048x1, .f32⟩
  | 2 => ⟨S_, .f32⟩
  | 3 => ⟨S8x2048x1, .f32⟩
  | 4 => ⟨S8x2048x1, .f32⟩
  | 5 => ⟨S8x2048x1, .f32⟩
  | 6 => ⟨S8x2048x1024, .f32⟩
  | 7 => ⟨S8x2048x1024, .f32⟩
  | 8 => ⟨S1x1x1024, .f32⟩
  | 9 => ⟨S8x2048x1024, .f32⟩
  | 10 => ⟨S8x2048x1024, .f32⟩
  | 11 => ⟨S16384x1024, .f32⟩
  | _ => ⟨S16384x5120, .bf16⟩

abbrev hbmTy (i : Nat) : BufTy := match i / 128 with
  | 0 => hbmTy0_0 i
  | 1 => hbmTy0_1 i
  | _ => ⟨S16384x5120, .bf16⟩

abbrev bufTy : (tb : Table) → Fin (tcTables nBuf tb) → BufTy
  | .hbm, ⟨i, _⟩ => hbmTy i
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v13 : Ref sig .tc := ⟨.hbm, 35, rfl⟩
abbrev main_call1_call0_cst : Ref sig .tc := ⟨.hbm, 36, rfl⟩
abbrev main_call1_call0_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v33 : Ref sig .tc := ⟨.hbm, 61, rfl⟩
abbrev main_cst_0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_v41 : Ref sig .tc := ⟨.hbm, 71, rfl⟩
abbrev main_cst_2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_3 : Ref sig .tc := ⟨.hbm, 81, rfl⟩
abbrev main_v50 : Ref sig .tc := ⟨.hbm, 82, rfl⟩
abbrev main_v51 : Ref sig .tc := ⟨.hbm, 83, rfl⟩
abbrev main_cst_4 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_5 : Ref sig .tc := ⟨.hbm, 90, rfl⟩
abbrev main_v57 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_8 : Ref sig .tc := ⟨.hbm, 124, rfl⟩
abbrev main_v80 : Ref sig .tc := ⟨.hbm, 125, rfl⟩
abbrev main_v81 : Ref sig .tc := ⟨.hbm, 126, rfl⟩
abbrev main_cst_9 : Ref sig .tc := ⟨.hbm, 127, rfl⟩
abbrev main_v82 : Ref sig .tc := ⟨.hbm, 128, rfl⟩
abbrev main_v83 : Ref sig .tc := ⟨.hbm, 129, rfl⟩
abbrev main_cst_10 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩

abbrev nD : Nat := 1
abbrev τ : Topo := Topo.v7x

variable {F : FTy → Type} [FloatOps F]
-- ==== Proof.KernelIdeal.Base.lean ====
/-
  The body of the idealized kernel is eight counted loops of one trip each (and eight dead ones): what one trip's region is asked to
  do, stated once for the eight of them.
-/
import proofs.«01_k».proof.Proof.Gen.KernelIdeal.Skeleton
import Idealize.ShloMosaic.Lib.Tactic
import Idealize.ShloMosaic.Lib.Pipeline.Kit

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, -/
abbrev Bf (c : Dev nD) {sp : Space} {S : Shape} {e : EltTy} (M : Memref sig .tc sp S e) : Type := Buf (Elt F) (M.view.loc (c : Thread nD τ))
/-- and that buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The contents of the six buffers the regions write: the projection, the convolution's result, the two halves of the
    gated product, the gate path, the activations with their history, the sums of products. -/
abbrev St (c : Dev nD) (M11 : Memref sig .tc .vmem S512x5120 .bf16) (M13 : Memref sig .tc .vmem S512x1024 .bf16) (M15 : Memref sig .tc .vmem S512x2048 .bf16) (M16 : Memref sig .tc .vmem S512x1024 .bf16) (M17 : Memref sig .tc .vmem S544x1024 .f32) (M18 : Memref sig .tc .vmem S512x1024 .f32) : Type :=
  Bf (F := F) c M11 × Bf (F := F) c M13 × Bf (F := F) c M15 × Bf (F := F) c M16 × Bf (F := F) c M17 × Bf (F := F) c M18

/-- The buffers the regions use, held whole: the seven they only read at `f·`, the six they write at `s`. -/
abbrev Pts (c : Dev nD) (M3 : Memref sig .tc .vmem S5120x1024 .f32) (M4 : Memref sig .tc .vmem S3072x1024 .f32) (M7 : Memref sig .tc .vmem S31x1024 .f32) (M8 : Memref sig .tc .vmem S1x1024 .f32) (M9 : Memref sig .tc .vmem S1x1024 .f32) (M10 : Memref sig .tc .vmem S1x1024 .f32) (M11 : Memref sig .tc .vmem S512x5120 .bf16) (M13 : Memref sig .tc .vmem S512x1024 .bf16) (M14 : Memref sig .tc .vmem S512x1024 .bf16) (M15 : Memref sig .tc .vmem S512x2048 .bf16) (M16 : Memref sig .tc .vmem S512x1024 .bf16) (M17 : Memref sig .tc .vmem S544x1024 .f32) (M18 : Memref sig .tc .vmem S512x1024 .f32) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) : sProp 𝕄 :=
  iprop(pt c M3 f3 ∗ pt c M4 f4 ∗ pt c M7 f7 ∗ pt c M8 f8 ∗ pt c M9 f9 ∗ pt c M10 f10 ∗ pt c M11 s.1 ∗ pt c M13 s.2.1 ∗ pt c M14 f14 ∗ pt c M15 s.2.2.1 ∗ pt c M16 s.2.2.2.1 ∗ pt c M17 s.2.2.2.2.1 ∗ pt c M18 s.2.2.2.2.2)

/-- A region: from those buffers it runs to its end with the six at `s'`. -/
abbrev Region (c : Dev nD) (M3 : Memref sig .tc .vmem S5120x1024 .f32) (M4 : Memref sig .tc .vmem S3072x1024 .f32) (M7 : Memref sig .tc .vmem S31x1024 .f32) (M8 : Memref sig .tc .vmem S1x1024 .f32) (M9 : Memref sig .tc .vmem S1x1024 .f32) (M10 : Memref sig .tc .vmem S1x1024 .f32) (M11 : Memref sig .tc .vmem S512x5120 .bf16) (M13 : Memref sig .tc .vmem S512x1024 .bf16) (M14 : Memref sig .tc .vmem S512x1024 .bf16) (M15 : Memref sig .tc .vmem S512x2048 .bf16) (M16 : Memref sig .tc .vmem S512x1024 .bf16) (M17 : Memref sig .tc .vmem S544x1024 .f32) (M18 : Memref sig .tc .vmem S512x1024 .f32) (f3 : Bf (F := F) c M3) (f4 : Bf (F := F) c M4) (f7 : Bf (F := F) c M7) (f8 : Bf (F := F) c M8) (f9 : Bf (F := F) c M9) (f10 : Bf (F := F) c M10) (f14 : Bf (F := F) c M14)
    (s s' : St (F := F) c M11 M13 M15 M16 M17 M18)
    (body : Prog (TpuEff nD τ sig (Elt F) Λ₀ .tc) Unit) : Prop :=
  ∀ (E : Set ℕ) (Q : Unit → sProp 𝕄),
    iprop(Pts c M3 M4 M7 M8 M9 M10 M11 M13 M14 M15 M16 M17 M18 f3 f4 f7 f8 f9 f10 f14 s ∗ (Pts c M3 M4 M7 M8 M9 M10 M11 M13 M14 M15 M16 M17 M18 f3 f4 f7 f8 f9 f10 f14 s' -∗ Q ⟨⟩))
    ⊢ wp frame (wpE (defs₀ (F := F)) Variants.none (c : Thread nD τ) none) E body Q

end Cert.KernelIdeal.Body

end
-- ==== Proof.KernelIdeal.Region1.lean ====
/-
  Region 1 of the body of the idealized kernel (loop 1 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 1: the contents it leaves, with its run. -/
noncomputable def region1 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (v33 c1 : BitVec 32) (t : Fin (k0_t1_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t1_body (F := F) i M1 h1 M2 h2 M3 h3 M4 h4 M5 h5 M6 h6 M7 h7 M8 h8 M9 h9 M10 h10 M11 h11 M12 h12 M13 h13 M14 h14 M15 h15 M16 h16 M17 h17 M18 h18 v33 c1 t ()) } := by
  refine ⟨(?_, ?_, ?_, ?_, ?_, ?_), fun E Q => ?run⟩
  case run =>
    unfold k0_t1_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region2.lean ====
/-
  Region 2 of the body of the idealized kernel (loop 3 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 2: the contents it leaves, with its run. -/
noncomputable def region2 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (v33 c1 : BitVec 32) (t : Fin (k0_t3_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t3_body (F := F) i M1 h1 M2 h2 M3 h3 M4 h4 M5 h5 M6 h6 M7 h7 M8 h8 M9 h9 M10 h10 M11 h11 M12 h12 M13 h13 M14 h14 M15 h15 M16 h16 M17 h17 M18 h18 v33 c1 t ()) } := by
  refine ⟨(?_, ?_, ?_, ?_, ?_, ?_), fun E Q => ?run⟩
  case run =>
    unfold k0_t3_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region3.lean ====
/-
  Region 3 of the body of the idealized kernel (loop 5 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 3: the contents it leaves, with its run. -/
noncomputable def region3 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (v33 c1 : BitVec 32) (t : Fin (k0_t5_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t5_body (F := F) i M1 h1 M2 h2 M3 h3 M4 h4 M5 h5 M6 h6 M7 h7 M8 h8 M9 h9 M10 h10 M11 h11 M12 h12 M13 h13 M14 h14 M15 h15 M16 h16 M17 h17 M18 h18 v33 c1 t ()) } := by
  refine ⟨(?_, ?_, ?_, ?_, ?_, ?_), fun E Q => ?run⟩
  case run =>
    unfold k0_t5_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region4.lean ====
/-
  Region 4 of the body of the idealized kernel (loop 7 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 4: the contents it leaves, with its run. -/
noncomputable def region4 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (v33 c1 : BitVec 32) (t : Fin (k0_t7_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t7_body (F := F) i M1 h1 M2 h2 M3 h3 M4 h4 M5 h5 M6 h6 M7 h7 M8 h8 M9 h9 M10 h10 M11 h11 M12 h12 M13 h13 M14 h14 M15 h15 M16 h16 M17 h17 M18 h18 v33 c1 t ()) } := by
  refine ⟨(?_, ?_, ?_, ?_, ?_, ?_), fun E Q => ?run⟩
  case run =>
    unfold k0_t7_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region5.lean ====
/-
  Region 5 of the body of the idealized kernel (loop 9 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 5: the contents it leaves, with its run. -/
noncomputable def region5 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (v33 c1 : BitVec 32) (t : Fin (k0_t9_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t9_body (F := F) i M1 h1 M2 h2 M3 h3 M4 h4 M5 h5 M6 h6 M7 h7 M8 h8 M9 h9 M10 h10 M11 h11 M12 h12 M13 h13 M14 h14 M15 h15 M16 h16 M17 h17 M18 h18 v33 c1 t ()) } := by
  refine ⟨(?_, ?_, ?_, ?_, ?_, ?_), fun E Q => ?run⟩
  case run =>
    unfold k0_t9_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region6.lean ====
/-
  Region 6 of the body of the idealized kernel (loop 11 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 6: the contents it leaves, with its run. -/
noncomputable def region6 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (t : Fin (k0_t11_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t11_body (F := F) i M1 h1 M2 h2 M3 h3 M4 h4 M5 h5 M6 h6 M7 h7 M8 h8 M9 h9 M10 h10 M11 h11 M12 h12 M13 h13 M14 h14 M15 h15 M16 h16 M17 h17 M18 h18  t ()) } := by
  refine ⟨(?_, ?_, ?_, ?_, ?_, ?_), fun E Q => ?run⟩
  case run =>
    unfold k0_t11_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region7.lean ====
/-
  Region 7 of the body of the idealized kernel (loop 13 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 7: the contents it leaves, with its run. -/
noncomputable def region7 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (w0 : BitVec 32) (t : Fin (k0_t13_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t13_body (F := F) i M1 h1 M2 h2 M3 h3 M4 h4 M5 h5 M6 h6 M7 h7 M8 h8 M9 h9 M10 h10 M11 h11 M12 h12 M13 h13 M14 h14 M15 h15 M16 h16 M17 h17 M18 h18 w0 t ()) } := by
  refine ⟨(?_, ?_, ?_, ?_, ?_, ?_), fun E Q => ?run⟩
  case run =>
    unfold k0_t13_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Region8.lean ====
/-
  Region 8 of the body of the idealized kernel (loop 15 of the printed text), run once at symbolic operands; what it leaves in the
  buffers it writes is found by the run.
-/
import proofs.«01_k».proof.Proof.KernelIdeal.Base

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Region 8: the contents it leaves, with its run. -/
noncomputable def region8 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (t : Fin (k0_t15_loop i).trips) (f3 : Bf (F := F) c M3) (f4 : Bf (F := F) c M4) (f7 : Bf (F := F) c M7) (f8 : Bf (F := F) c M8) (f9 : Bf (F := F) c M9) (f10 : Bf (F := F) c M10) (f14 : Bf (F := F) c M14)
    (s : St (F := F) c M11 M13 M15 M16 M17 M18) :
    { s' : St (F := F) c M11 M13 M15 M16 M17 M18 //
      Region c M3 M4 M7 M8 M9 M10 M11 M13 M14 M15 M16 M17 M18 f3 f4 f7 f8 f9 f10 f14 s s' (k0_t15_body (F := F) i M1 h1 M2 h2 M3 h3 M4 h4 M5 h5 M6 h6 M7 h7 M8 h8 M9 h9 M10 h10 M11 h11 M12 h12 M13 h13 M14 h14 M15 h15 M16 h16 M17 h17 M18 h18  t ()) } := by
  refine ⟨(?_, ?_, ?_, ?_, ?_, ?_), fun E Q => ?run⟩
  case run =>
    unfold k0_t15_body Pts
    dsimp only
    iintro ⟨⟨H3, H4, H7, H8, H9, H10, H11, H13, H14, H15, H16, H17, H18⟩, Hk⟩
    sl_exec_parts!
    sl_step
    iapply Hk
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdeal.Body.lean ====
/-
  The body of the idealized kernel at one grid point, run from its start to its return: the stretch before the counted loops, then the eight live
  loops one after another (the eight dead ones run no trip).
-/
import proofs.«01_k».proof.Proof.KernelIdeal.Region1
import proofs.«01_k».proof.Proof.KernelIdeal.Region2
import proofs.«01_k».proof.Proof.KernelIdeal.Region3
import proofs.«01_k».proof.Proof.KernelIdeal.Region4
import proofs.«01_k».proof.Proof.KernelIdeal.Region5
import proofs.«01_k».proof.Proof.KernelIdeal.Region6
import proofs.«01_k».proof.Proof.KernelIdeal.Region7
import proofs.«01_k».proof.Proof.KernelIdeal.Region8
import Idealize.ShloMosaic.Lib.Pipeline.TableIdle

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The loops' trips -/

theorem trips1 : ∀ i : grid0.Coords, (k0_t1_loop i).trips = 1 := by decide +kernel
theorem idle1 (i : grid0.Coords) : (k0_t2_loop i).trips = 0 := Nat.le_zero.mp (k0_t2_abs i).2.1
theorem trips2 : ∀ i : grid0.Coords, (k0_t3_loop i).trips = 1 := by decide +kernel
theorem idle2 (i : grid0.Coords) : (k0_t4_loop i).trips = 0 := Nat.le_zero.mp (k0_t4_abs i).2.1
theorem trips3 : ∀ i : grid0.Coords, (k0_t5_loop i).trips = 1 := by decide +kernel
theorem idle3 (i : grid0.Coords) : (k0_t6_loop i).trips = 0 := Nat.le_zero.mp (k0_t6_abs i).2.1
theorem trips4 : ∀ i : grid0.Coords, (k0_t7_loop i).trips = 1 := by decide +kernel
theorem idle4 (i : grid0.Coords) : (k0_t8_loop i).trips = 0 := Nat.le_zero.mp (k0_t8_abs i).2.1
theorem trips5 : ∀ i : grid0.Coords, (k0_t9_loop i).trips = 1 := by decide +kernel
theorem idle5 (i : grid0.Coords) : (k0_t10_loop i).trips = 0 := Nat.le_zero.mp (k0_t10_abs i).2.1
theorem trips6 : ∀ i : grid0.Coords, (k0_t11_loop i).trips = 1 := by decide +kernel
theorem idle6 (i : grid0.Coords) : (k0_t12_loop i).trips = 0 := Nat.le_zero.mp (k0_t12_abs i).2.1
theorem trips7 : ∀ i : grid0.Coords, (k0_t13_loop i).trips = 1 := by decide +kernel
theorem idle7 (i : grid0.Coords) : (k0_t14_loop i).trips = 0 := Nat.le_zero.mp (k0_t14_abs i).2.1
theorem trips8 : ∀ i : grid0.Coords, (k0_t15_loop i).trips = 1 := by decide +kernel
theorem idle8 (i : grid0.Coords) : (k0_t16_loop i).trips = 0 := Nat.le_zero.mp (k0_t16_abs i).2.1

/-! ## One loop in a chain of them -/

/-- A loop of one trip, in front of the rest of the program: its region is run, the rest goes on from what it left. -/
theorem loop1 {c : Dev nD} {M3 : Memref sig .tc .vmem S5120x1024 .f32} {M4 : Memref sig .tc .vmem S3072x1024 .f32} {M7 : Memref sig .tc .vmem S31x1024 .f32} {M8 : Memref sig .tc .vmem S1x1024 .f32} {M9 : Memref sig .tc .vmem S1x1024 .f32} {M10 : Memref sig .tc .vmem S1x1024 .f32} {M11 : Memref sig .tc .vmem S512x5120 .bf16} {M13 : Memref sig .tc .vmem S512x1024 .bf16} {M14 : Memref sig .tc .vmem S512x1024 .bf16} {M15 : Memref sig .tc .vmem S512x2048 .bf16} {M16 : Memref sig .tc .vmem S512x1024 .bf16} {M17 : Memref sig .tc .vmem S544x1024 .f32} {M18 : Memref sig .tc .vmem S512x1024 .f32}
    {f3 : Bf (F := F) c M3} {f4 : Bf (F := F) c M4} {f7 : Bf (F := F) c M7} {f8 : Bf (F := F) c M8} {f9 : Bf (F := F) c M9} {f10 : Bf (F := F) c M10} {f14 : Bf (F := F) c M14} {s s' : St (F := F) c M11 M13 M15 M16 M17 M18} {α : Type} (l : Scf.Loop 32) (hok : l.OK) (h : l.trips = 1)
    {body : Fin l.trips → Unit → Prog (TpuEff nD τ sig (Elt F) Λ₀ .tc) Unit} {K : Unit → Prog (TpuEff nD τ sig (Elt F) Λ₀ .tc) α}
    (hr : Region c M3 M4 M7 M8 M9 M10 M11 M13 M14 M15 M16 M17 M18 f3 f4 f7 f8 f9 f10 f14 s s' (body ⟨0, by omega⟩ ()))
    {E : Set ℕ} {R : sProp 𝕄} {Q : α → sProp 𝕄}
    (hK : iprop(Pts c M3 M4 M7 M8 M9 M10 M11 M13 M14 M15 M16 M17 M18 f3 f4 f7 f8 f9 f10 f14 s' ∗ R) ⊢ wp frame (wpE (defs₀ (F := F)) Variants.none (c : Thread nD τ) none) E (K ()) Q) :
    iprop(Pts c M3 M4 M7 M8 M9 M10 M11 M13 M14 M15 M16 M17 M18 f3 f4 f7 f8 f9 f10 f14 s ∗ R) ⊢ wp frame (wpE (defs₀ (F := F)) Variants.none (c : Thread nD τ) none) E (l.for hok () body >>= K) Q := by
  rw [Scf.for_trips1_bind l hok h, wp_bind]
  refine BIBase.Entails.trans ?_ (hr E _)
  iintro ⟨HP, HR⟩
  isplitl [HP]; · iexact HP
  iintro HP
  iapply hK
  isplitl [HP]; · iexact HP
  iexact HR

/-- A loop of no trip is skipped. -/
theorem loop0 {c : Dev nD} {α : Type} (l : Scf.Loop 32) (hok : l.OK) (h : l.trips = 0)
    {body : Fin l.trips → Unit → Prog (TpuEff nD τ sig (Elt F) Λ₀ .tc) Unit} {K : Unit → Prog (TpuEff nD τ sig (Elt F) Λ₀ .tc) α}
    {E : Set ℕ} {R : sProp 𝕄} {Q : α → sProp 𝕄}
    (hK : R ⊢ wp frame (wpE (defs₀ (F := F)) Variants.none (c : Thread nD τ) none) E (K ()) Q) :
    R ⊢ wp frame (wpE (defs₀ (F := F)) Variants.none (c : Thread nD τ) none) E (l.for hok () body >>= K) Q := by
  rw [Scf.for_trips0_bind l hok h]; exact hK

/-! ## The stretch before the loops -/

/-- The buffers only the stretch before the loops uses. -/
abbrev Rest (c : Dev nD) (M1 : Memref sig .tc .vmem S512x1024 .f32) (M2 : Memref sig .tc .vmem S1x1024 .f32) (M5 : Memref sig .tc .vmem S8x1024 .f32) (M6 : Memref sig .tc .vmem S8x1 .f32) (M12 : Memref sig .tc .vmem S8x512 .f32) (f1 : Bf (F := F) c M1) (f2 : Bf (F := F) c M2) (f5 : Bf (F := F) c M5) (f6 : Bf (F := F) c M6) (f12 : Bf (F := F) c M12) : sProp 𝕄 :=
  iprop(pt c M1 f1 ∗ pt c M2 f2 ∗ pt c M5 f5 ∗ pt c M6 f6 ∗ pt c M12 f12)

/-- What the stretch before the loops leaves in the four buffers it writes (the gates, the normed rows, the gate path, the
    activations with their history), with its run. -/
def pre (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (f1 : Bf (F := F) c M1) (f2 : Bf (F := F) c M2) (f5 : Bf (F := F) c M5) (f6 : Bf (F := F) c M6) (f12 : Bf (F := F) c M12) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) :
    { r : Bf (F := F) c M12 × Bf (F := F) c M14 × Bf (F := F) c M16 × Bf (F := F) c M17 //
      ∀ (E : Set ℕ) (Q : _ → sProp 𝕄),
      iprop((Pts c M3 M4 M7 M8 M9 M10 M11 M13 M14 M15 M16 M17 M18 f3 f4 f7 f8 f9 f10 f14 s ∗ Rest c M1 M2 M5 M6 M12 f1 f2 f5 f6 f12)
          ∗ ((Pts c M3 M4 M7 M8 M9 M10 M11 M13 M14 M15 M16 M17 M18 f3 f4 f7 f8 f9 f10 r.2.1 (s.1, s.2.1, s.2.2.1, r.2.2.1, r.2.2.2, s.2.2.2.2.2) ∗ Rest c M1 M2 M5 M6 M12 f1 f2 f5 f6 r.1)
            -∗ Q ⟨BitVec.ofNat 32 (i 0).val, (Scalar.minsi (BitVec.ofNat 32 (i 0).val) 0#32), 1#32⟩))
      ⊢ wp frame (wpE (defs₀ (F := F)) Variants.none (c : Thread nD τ) none) E (k0_part795 (F := F) i M1 h1 M2 h2 M3 h3 M4 h4 M5 h5 M6 h6 M7 h7 M8 h8 M9 h9 M10 h10 M11 h11 M12 h12 M13 h13 M14 h14 M15 h15 M16 h16 M17 h17 M18 h18) Q } := by
  refine ⟨(?_, ?_, ?_, ?_), fun E Q => ?run⟩
  case run =>
    rw [k0_part795_eq_skeleton]
    unfold k0_part795_skel Pts Rest
    dsimp only
    iintro ⟨⟨⟨H3, H4, H7, H8, H9, H10, H11, H13, H14, H15, H16, H17, H18⟩, ⟨H1, H2, H5, H6, H12⟩⟩, Hk⟩
    sl_exec
    sl_step
    iapply Hk
    isplitl [H3 H4 H7 H8 H9 H10 H11 H13 H14 H15 H16 H17 H18]
    · isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H13]; · iexact H13
      isplitl [H14]; · iexact H14
      isplitl [H15]; · iexact H15
      isplitl [H16]; · iexact H16
      isplitl [H17]; · iexact H17
      iexact H18
    isplitl [H1]; · iexact H1
    isplitl [H2]; · iexact H2
    isplitl [H5]; · iexact H5
    isplitl [H6]; · iexact H6
    iexact H12

/-! ## The eight steps -/

/-- What region 1 leaves. -/
def step1 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region1 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips1]; exact Nat.one_pos⟩ f3 f4 f7 f8 f9 f10 f14 s).1
/-- What region 2 leaves. -/
def step2 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region2 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips2]; exact Nat.one_pos⟩ f3 f4 f7 f8 f9 f10 f14 s).1
/-- What region 3 leaves. -/
def step3 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region3 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips3]; exact Nat.one_pos⟩ f3 f4 f7 f8 f9 f10 f14 s).1
/-- What region 4 leaves. -/
def step4 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region4 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips4]; exact Nat.one_pos⟩ f3 f4 f7 f8 f9 f10 f14 s).1
/-- What region 5 leaves. -/
def step5 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region5 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips5]; exact Nat.one_pos⟩ f3 f4 f7 f8 f9 f10 f14 s).1
/-- What region 6 leaves. -/
def step6 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region6 c i M1 h1 M2 h2 M3 h3 M4 h4 M5 h5 M6 h6 M7 h7 M8 h8 M9 h9 M10 h10 M11 h11 M12 h12 M13 h13 M14 h14 M15 h15 M16 h16 M17 h17 M18 h18  ⟨0, by rw [trips6]; exact Nat.one_pos⟩ f3 f4 f7 f8 f9 f10 f14 s).1
/-- What region 7 leaves. -/
def step7 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region7 c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, by rw [trips7]; exact Nat.one_pos⟩ f3 f4 f7 f8 f9 f10 f14 s).1
/-- What region 8 leaves. -/
def step8 (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  (region8 c i M1 h1 M2 h2 M3 h3 M4 h4 M5 h5 M6 h6 M7 h7 M8 h8 M9 h9 M10 h10 M11 h11 M12 h12 M13 h13 M14 h14 M15 h15 M16 h16 M17 h17 M18 h18  ⟨0, by rw [trips8]; exact Nat.one_pos⟩ f3 f4 f7 f8 f9 f10 f14 s).1

/-- The eight one after another. -/
def steps (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) : St (F := F) c M11 M13 M15 M16 M17 M18 :=
  step8 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step7 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step6 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step5 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step4 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step3 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step2 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 (step1 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s)))))))

/-! ## The whole body -/

/-- What the whole body leaves, from what it finds: the gates, the normed rows, and the six buffers the regions write. -/
def fin (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (f1 : Bf (F := F) c M1) (f2 : Bf (F := F) c M2) (f5 : Bf (F := F) c M5) (f6 : Bf (F := F) c M6) (f12 : Bf (F := F) c M12) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18) :
    Bf (F := F) c M12 × Bf (F := F) c M14 × St (F := F) c M11 M13 M15 M16 M17 M18 :=
  let r := (pre c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1
  (r.1, r.2.1, steps c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r.2.1 (s.1, s.2.1, s.2.2.1, r.2.2.1, r.2.2.2, s.2.2.2.2.2))

theorem body_run (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (f1 : Bf (F := F) c M1) (f2 : Bf (F := F) c M2) (f5 : Bf (F := F) c M5) (f6 : Bf (F := F) c M6) (f12 : Bf (F := F) c M12) (f3 : Bf (F := F) c M3) (f4 : Bf (F := F) c M4) (f7 : Bf (F := F) c M7) (f8 : Bf (F := F) c M8) (f9 : Bf (F := F) c M9) (f10 : Bf (F := F) c M10) (f14 : Bf (F := F) c M14) (s : St (F := F) c M11 M13 M15 M16 M17 M18)
    (E : Set ℕ) (Q : PUnit → sProp 𝕄) :
    iprop((Pts c M3 M4 M7 M8 M9 M10 M11 M13 M14 M15 M16 M17 M18 f3 f4 f7 f8 f9 f10 f14 s ∗ Rest c M1 M2 M5 M6 M12 f1 f2 f5 f6 f12)
        ∗ ((Pts c M3 M4 M7 M8 M9 M10 M11 M13 M14 M15 M16 M17 M18 f3 f4 f7 f8 f9 f10 (fin c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.1 (fin c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2 ∗ Rest c M1 M2 M5 M6 M12 f1 f2 f5 f6 (fin c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1) -∗ Q ⟨⟩))
    ⊢ wp frame (wpE (defs₀ (F := F)) Variants.none (c : Thread nD τ) none) E (cc0_proj_conv (F := F) i M1 h1 M2 h2 M3 h3 M4 h4 M5 h5 M6 h6 M7 h7 M8 h8 M9 h9 M10 h10 M11 h11 M12 h12 M13 h13 M14 h14 M15 h15 M16 h16 M17 h17 M18 h18) Q := by
  rw [cc0_proj_conv_eq_skeleton]
  unfold cc0_proj_conv_skel
  rw [wp_bind]
  unfold fin
  generalize hr : (pre c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s) = r
  refine BIBase.Entails.trans ?_ (r.2 E _)
  refine sep_mono .rfl ?_
  refine BIClass.wand_intro ?_
  obtain ⟨⟨r12, r14, r16, r17⟩, hr2⟩ := r
  dsimp only
  clear hr hr2
  generalize hs : (s.1, s.2.1, s.2.2.1, r16, r17, s.2.2.2.2.2) = s0
  clear hs
  refine BIBase.Entails.trans (Q := iprop(Pts c M3 M4 M7 M8 M9 M10 M11 M13 M14 M15 M16 M17 M18 f3 f4 f7 f8 f9 f10 r14 s0 ∗ (Rest c M1 M2 M5 M6 M12 f1 f2 f5 f6 r12 ∗ ((Pts c M3 M4 M7 M8 M9 M10 M11 M13 M14 M15 M16 M17 M18 f3 f4 f7 f8 f9 f10 r14 (steps c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 s0) ∗ Rest c M1 M2 M5 M6 M12 f1 f2 f5 f6 r12) -∗ Q ⟨⟩)))) ?_ ?_
  · iintro ⟨Hk, HP, HR⟩
    isplitl [HP]; · iexact HP
    isplitl [HR]; · iexact HR
    iexact Hk
  rw [wp_bind, k0_part796_eq_skeleton]
  unfold k0_part796_skel
  dsimp only
  refine loop1 _ _ (trips1 i) (s' := step1 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region1 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, _⟩ f3 f4 f7 f8 f9 f10 r14 _).2 ?_
  refine loop0 _ _ (idle1 i) ?_
  refine loop1 _ _ (trips2 i) (s' := step2 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region2 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, _⟩ f3 f4 f7 f8 f9 f10 r14 _).2 ?_
  refine loop0 _ _ (idle2 i) ?_
  refine loop1 _ _ (trips3 i) (s' := step3 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region3 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, _⟩ f3 f4 f7 f8 f9 f10 r14 _).2 ?_
  refine loop0 _ _ (idle3 i) ?_
  refine loop1 _ _ (trips4 i) (s' := step4 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region4 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, _⟩ f3 f4 f7 f8 f9 f10 r14 _).2 ?_
  refine loop0 _ _ (idle4 i) ?_
  refine loop1 _ _ (trips5 i) (s' := step5 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region5 c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, _⟩ f3 f4 f7 f8 f9 f10 r14 _).2 ?_
  rw [wp_pure]
  refine BIBase.Entails.trans ?_ fupd_intro
  dsimp only
  refine loop0 _ _ (idle5 i) ?_
  refine loop1 _ _ (trips6 i) (s' := step6 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region6 c i M1 h1 M2 h2 M3 h3 M4 h4 M5 h5 M6 h6 M7 h7 M8 h8 M9 h9 M10 h10 M11 h11 M12 h12 M13 h13 M14 h14 M15 h15 M16 h16 M17 h17 M18 h18  ⟨0, _⟩ f3 f4 f7 f8 f9 f10 r14 _).2 ?_
  refine loop0 _ _ (idle6 i) ?_
  refine loop1 _ _ (trips7 i) (s' := step7 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region7 c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, _⟩ f3 f4 f7 f8 f9 f10 r14 _).2 ?_
  refine loop0 _ _ (idle7 i) ?_
  refine loop1 _ _ (trips8 i) (s' := step8 c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 r14 _) (region8 c i M1 h1 M2 h2 M3 h3 M4 h4 M5 h5 M6 h6 M7 h7 M8 h8 M9 h9 M10 h10 M11 h11 M12 h12 M13 h13 M14 h14 M15 h15 M16 h16 M17 h17 M18 h18  ⟨0, _⟩ f3 f4 f7 f8 f9 f10 r14 _).2 ?_
  refine loop0 _ _ (idle8 i) ?_
  rw [wp_pure]
  refine BIBase.Entails.trans ?_ fupd_intro
  iintro ⟨HP, HR, Hk⟩
  iapply Hk
  isplitl [HP]; · iexact HP
  iexact HR

end Cert.KernelIdeal.Body

end
-- ==== Proof.KernelIdeal.Run.lean ====
/-
  The idealized kernel as a whole run: every point's body runs from any contents of the staging buffers and the scratch, so the pipeline
  ends, and the arguments, which no window moves, are as they were.
-/
import proofs.«01_k».proof.Proof.KernelIdeal.Body
import proofs.«01_k».proof.Proof.Gen.KernelIdeal.Frame
import Idealize.ShloMosaic.Lib.Pipeline.Frame
import Idealize.ShloMosaic.Lib.Pipeline.FrameBody

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- A whole memref owned at some contents is its buffer held whole at what reads those. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  obtain rfl := h.eq_unread hf
  iexact H

/-- And back. -/
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns
  rw [h.set_eq_univ]
  iintro H
  iexists f
  isplitr; · ipureintro; rfl
  iexact H

variable (m : (ℓ : Loc nD τ sig) → Buf (Elt F) ℓ) (ρ : Dev nD → PrngReg)

/-- The proof data when nothing is said of what the windows hold: the arrays as the region finds them, the scratch at anything. -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What the body of point `t` is handed, every staging buffer at anything, and what it hands back. -/
def anyPre (c : Dev nD) (t : Fin cfg0.N) : sProp 𝕄 :=
  iprop((datsAny m 0 c).Φ t.castSucc ∗ (datsAny m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d))
def anyPost (c : Dev nD) (t : Fin cfg0.N) : sProp 𝕄 :=
  iprop((datsAny m 0 c).Φ t.succ ∗ (datsAny m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d))

theorem any_body (c : Dev nD) (t : Fin cfg0.N) :
    anyPre m c t ⊢ wp frame (wpE (defs₀ (F := F)) Variants.none (c : Thread nD τ) none) Set.univ (bodyAt0 t) (fun _ => anyPost m c t) := by
  unfold anyPre anyPost bodyAt0
  rw [show (datsAny m 0 c).Φ t.succ = Pipeline.ΦA spec0 c from rfl, show (datsAny m 0 c).Φ t.castSucc = Pipeline.ΦA spec0 c from rfl,
    show (datsAny m 0 c).owesAt () t.succ = (datsAny m 0 c).owesAt () t.castSucc from rfl]
  unfold Pipeline.ΦA
  rw [scopedRest0_eq]
  iintro ⟨⟨⟨⟨%f14, H14⟩, ⟨%f15, H15⟩, ⟨%f16, H16⟩, ⟨%f17, H17⟩, ⟨%f18, H18⟩⟩, Hg⟩, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hstage0_0 ((cfg0.slots t 0).cast nbuf0_0)).unread d1) ((hstage0_1 ((cfg0.slots t 1).cast nbuf0_1)).unread d2) ((hstage0_4 ((cfg0.slots t 4).cast nbuf0_4)).unread d5) ((hstage0_5 ((cfg0.slots t 5).cast nbuf0_5)).unread d6) ((hstage0_11 ((cfg0.slots t 11).cast nbuf0_11)).unread d12) ((hstage0_2 ((cfg0.slots t 2).cast nbuf0_2)).unread d3) ((hstage0_3 ((cfg0.slots t 3).cast nbuf0_3)).unread d4) ((hstage0_6 ((cfg0.slots t 6).cast nbuf0_6)).unread d7) ((hstage0_7 ((cfg0.slots t 7).cast nbuf0_7)).unread d8) ((hstage0_8 ((cfg0.slots t 8).cast nbuf0_8)).unread d9) ((hstage0_9 ((cfg0.slots t 9).cast nbuf0_9)).unread d10) f14 (((hstage0_10 ((cfg0.slots t 10).cast nbuf0_10)).unread d11), ((hstage0_12 ((cfg0.slots t 12).cast nbuf0_12)).unread d13), f15, f16, f17, f18) Set.univ _)
  isplitl [H1 H2 H3 H4 H5 H6 H7 H8 H9 H10 H11 H12 H13 H14 H15 H16 H17 H18]
  · isplitl [H3 H4 H7 H8 H9 H10 H11 H13 H14 H15 H16 H17 H18]
    · isplitl [H3]; · iapply (owns_pt (F := F) c (win0_2.stage (cfg0.slots t 2)) (hstage0_2 ((cfg0.slots t 2).cast nbuf0_2)) d3); iexact H3
      isplitl [H4]; · iapply (owns_pt (F := F) c (win0_3.stage (cfg0.slots t 3)) (hstage0_3 ((cfg0.slots t 3).cast nbuf0_3)) d4); iexact H4
      isplitl [H7]; · iapply (owns_pt (F := F) c (win0_6.stage (cfg0.slots t 6)) (hstage0_6 ((cfg0.slots t 6).cast nbuf0_6)) d7); iexact H7
      isplitl [H8]; · iapply (owns_pt (F := F) c (win0_7.stage (cfg0.slots t 7)) (hstage0_7 ((cfg0.slots t 7).cast nbuf0_7)) d8); iexact H8
      isplitl [H9]; · iapply (owns_pt (F := F) c (win0_8.stage (cfg0.slots t 8)) (hstage0_8 ((cfg0.slots t 8).cast nbuf0_8)) d9); iexact H9
      isplitl [H10]; · iapply (owns_pt (F := F) c (win0_9.stage (cfg0.slots t 9)) (hstage0_9 ((cfg0.slots t 9).cast nbuf0_9)) d10); iexact H10
      isplitl [H11]; · iapply (owns_pt (F := F) c (win0_10.stage (cfg0.slots t 10)) (hstage0_10 ((cfg0.slots t 10).cast nbuf0_10)) d11); iexact H11
      isplitl [H13]; · iapply (owns_pt (F := F) c (win0_12.stage (cfg0.slots t 12)) (hstage0_12 ((cfg0.slots t 12).cast nbuf0_12)) d13); iexact H13
      isplitl [H14]; · iexact H14
      isplitl [H15]; · iexact H15
      isplitl [H16]; · iexact H16
      isplitl [H17]; · iexact H17
      iexact H18
    isplitl [H1]; · iapply (owns_pt (F := F) c (win0_0.stage (cfg0.slots t 0)) (hstage0_0 ((cfg0.slots t 0).cast nbuf0_0)) d1); iexact H1
    isplitl [H2]; · iapply (owns_pt (F := F) c (win0_1.stage (cfg0.slots t 1)) (hstage0_1 ((cfg0.slots t 1).cast nbuf0_1)) d2); iexact H2
    isplitl [H5]; · iapply (owns_pt (F := F) c (win0_4.stage (cfg0.slots t 4)) (hstage0_4 ((cfg0.slots t 4).cast nbuf0_4)) d5); iexact H5
    isplitl [H6]; · iapply (owns_pt (F := F) c (win0_5.stage (cfg0.slots t 5)) (hstage0_5 ((cfg0.slots t 5).cast nbuf0_5)) d6); iexact H6
    iapply (owns_pt (F := F) c (win0_11.stage (cfg0.slots t 11)) (hstage0_11 ((cfg0.slots t 11).cast nbuf0_11)) d12); iexact H12
  iintro ⟨⟨H3, H4, H7, H8, H9, H10, H11, H13, H14, H15, H16, H17, H18⟩, ⟨H1, H2, H5, H6, H12⟩⟩
  isplitl [Hg H14 H15 H16 H17 H18]
  · isplitl [H14 H15 H16 H17 H18]
    · isplitl [H14]; · iexists _; iexact H14
      isplitl [H15]; · iexists _; iexact H15
      isplitl [H16]; · iexists _; iexact H16
      isplitl [H17]; · iexists _; iexact H17
      iexists _; iexact H18
    iexact Hg
  isplitl [HO]; · iexact HO
  isplitl [H1]; · iexists _; iapply (pt_owns (F := F) c (win0_0.stage (cfg0.slots t 0)) (hstage0_0 ((cfg0.slots t 0).cast nbuf0_0)) _); iexact H1
  isplitl [H2]; · iexists _; iapply (pt_owns (F := F) c (win0_1.stage (cfg0.slots t 1)) (hstage0_1 ((cfg0.slots t 1).cast nbuf0_1)) _); iexact H2
  isplitl [H3]; · iexists _; iapply (pt_owns (F := F) c (win0_2.stage (cfg0.slots t 2)) (hstage0_2 ((cfg0.slots t 2).cast nbuf0_2)) _); iexact H3
  isplitl [H4]; · iexists _; iapply (pt_owns (F := F) c (win0_3.stage (cfg0.slots t 3)) (hstage0_3 ((cfg0.slots t 3).cast nbuf0_3)) _); iexact H4
  isplitl [H5]; · iexists _; iapply (pt_owns (F := F) c (win0_4.stage (cfg0.slots t 4)) (hstage0_4 ((cfg0.slots t 4).cast nbuf0_4)) _); iexact H5
  isplitl [H6]; · iexists _; iapply (pt_owns (F := F) c (win0_5.stage (cfg0.slots t 5)) (hstage0_5 ((cfg0.slots t 5).cast nbuf0_5)) _); iexact H6
  isplitl [H7]; · iexists _; iapply (pt_owns (F := F) c (win0_6.stage (cfg0.slots t 6)) (hstage0_6 ((cfg0.slots t 6).cast nbuf0_6)) _); iexact H7
  isplitl [H8]; · iexists _; iapply (pt_owns (F := F) c (win0_7.stage (cfg0.slots t 7)) (hstage0_7 ((cfg0.slots t 7).cast nbuf0_7)) _); iexact H8
  isplitl [H9]; · iexists _; iapply (pt_owns (F := F) c (win0_8.stage (cfg0.slots t 8)) (hstage0_8 ((cfg0.slots t 8).cast nbuf0_8)) _); iexact H9
  isplitl [H10]; · iexists _; iapply (pt_owns (F := F) c (win0_9.stage (cfg0.slots t 9)) (hstage0_9 ((cfg0.slots t 9).cast nbuf0_9)) _); iexact H10
  isplitl [H11]; · iexists _; iapply (pt_owns (F := F) c (win0_10.stage (cfg0.slots t 10)) (hstage0_10 ((cfg0.slots t 10).cast nbuf0_10)) _); iexact H11
  isplitl [H12]; · iexists _; iapply (pt_owns (F := F) c (win0_11.stage (cfg0.slots t 11)) (hstage0_11 ((cfg0.slots t 11).cast nbuf0_11)) _); iexact H12
  iexists _; iapply (pt_owns (F := F) c (win0_12.stage (cfg0.slots t 12)) (hstage0_12 ((cfg0.slots t 12).cast nbuf0_12)) _); iexact H13

/-- Every window forgotten. -/
def allForgot : Fin 13 → Bool := fun _ => true

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem any_obligation (c : Dev nD) :
    BodyObligation (datsAny (F := F) m 0 c) (defs₀ (F := F)) Variants.none () Set.univ allForgot := fun t => by
  rw [bigSep_W0, bigSep_W0, defs₀_row]
  exact triple_restated (any_body m c t) rfl .rfl fun _ => .rfl

set_option backward.isDefEq.respectTransparency.types false in
/-- Every weakly fair execution ends, with every buffer that is no window's array as the region found it and every counter
    at zero. -/
theorem run_any :
    θ_run defs (onTc (τ := τ) (main (F := F))) (s₀ m ρ)
      (fun r => Pipeline.RDat.FramePost (cfgs 0) (fun c => (datsAny m 0 c).toRForget allForgot) (V m) r ∧ r.2.sem = fun _ => 0) :=
  Pipeline.θ_run_frame_forget_shared cfgs (datsAny m) (0 : Fin 1) launch₀0 defs₀ Variants.none allForgot m ρ main
    (fun c => (any_obligation m c).loose) (fun _ _ _ => rfl) (fun _ _ => rfl) (V m) (hmain m Variants.none) (fun _ _ => rfl)
    (fun _ _ => rfl) _ (fun _ h => h)

/-- @main ends, its arguments unchanged, the counters at zero. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c =>
    have keep (b : Ref sig .tc) (hb : b ∈ Pipeline.restRefs sig spec0) := (h.1 c).2 b hb
    ⟨(keep main_arg0 (Pipeline.mem_restRefs_of main_arg0 (by decide) (by decide))).trans (V_main_arg0 m c),
      (keep main_arg1 (Pipeline.mem_restRefs_of main_arg1 (by decide) (by decide))).trans (V_main_arg1 m c),
      (keep main_arg2 (Pipeline.mem_restRefs_of main_arg2 (by decide) (by decide))).trans (V_main_arg2 m c),
      (keep main_arg3 (Pipeline.mem_restRefs_of main_arg3 (by decide) (by decide))).trans (V_main_arg3 m c),
      (keep main_arg4 (Pipeline.mem_restRefs_of main_arg4 (by decide) (by decide))).trans (V_main_arg4 m c),
      (keep main_arg5 (Pipeline.mem_restRefs_of main_arg5 (by decide) (by decide))).trans (V_main_arg5 m c),
      (keep main_arg6 (Pipeline.mem_restRefs_of main_arg6 (by decide) (by decide))).trans (V_main_arg6 m c),
      (keep main_arg7 (Pipeline.mem_restRefs_of main_arg7 (by decide) (by decide))).trans (V_main_arg7 m c)⟩, h.2⟩) (run_any m ρ)

end Cert.KernelIdeal.Body

end
-- ==== Proof.Value.Units.lean ====
/-
  What the body's pieces compute, at an element: one unit of the convolution (64 rows, 128 lanes), one block of 64 rows of the layer norm with its
  gate, one block of the gated linear unit, one matrix product. Matrices are read at natural-number coordinates.
-/
import proofs.«01_k».proof.Proof.Gen.KernelIdeal.Skeleton
import Idealize.ShloMosaic.Lib.ValueIdx
import Idealize.ShloMosaic.Lib.ValueIdxCoords
import Idealize.ShloMosaic.Lib.MatmulPlain
import Idealize.ShloMosaic.Lib.WritesUnit
import Idealize.ShloMosaic.Lib.Pipeline.Value
import Idealize.ShloMosaic.Lib.Pipeline.FrameBody

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

/-! ## Matrices at natural-number coordinates -/

/-- A matrix at row `p`, column `l`; zero outside it. -/
def at2 {n m : ℕ} (X : (⟨2, ![n, m]⟩ : Shape).Idx → EReal) (p l : ℕ) : EReal :=
  if h : p < n ∧ l < m then X (ix2 ⟨p, h.1⟩ ⟨l, h.2⟩) else 0

theorem at2_of {n m : ℕ} (X : (⟨2, ![n, m]⟩ : Shape).Idx → EReal) {p l : ℕ} (hp : p < n) (hl : l < m) :
    at2 X p l = X (ix2 ⟨p, hp⟩ ⟨l, hl⟩) := dif_pos ⟨hp, hl⟩

theorem at2_idx {n m : ℕ} (X : (⟨2, ![n, m]⟩ : Shape).Idx → EReal) (y : (⟨2, ![n, m]⟩ : Shape).Idx) :
    at2 X (y 0).val (y 1).val = X y := by
  rw [at2_of X (idx2_lt0 y) (idx2_lt1 y)]
  exact congrArg X (eq_ix2 y).symm

/-- A load of a block reads the matrix at the block's offset. -/
theorem ld_apply {n m a b o0 o1 : ℕ} (X : (⟨2, ![n, m]⟩ : Shape).Idx → EReal)
    (inb : ∀ k : Fin 2, (![o0, o1] : Fin 2 → ℕ) k + (![a, b] : Fin 2 → ℕ) k ≤ (![n, m] : Fin 2 → ℕ) k)
    (x : (⟨2, ![a, b]⟩ : Shape).Idx) :
    X ((Rect.unit (s := ⟨2, ![n, m]⟩) ![o0, o1] ![a, b] inb).idx x) = at2 X (o0 + (x 0).val) (o1 + (x 1).val) := by
  have h0 := inb 0
  have h1 := inb 1
  have x0 := idx2_lt0 x
  have x1 := idx2_lt1 x
  simp only [Matrix.cons_val_zero, Matrix.cons_val_one] at h0 h1
  rw [at2_of X (show o0 + (x 0).val < n by omega) (show o1 + (x 1).val < m by omega)]
  refine congrArg X (funext fun k => Fin.ext ?_)
  match k with
  | ⟨0, _⟩ => show o0 + 1 * (x 0).val = o0 + (x 0).val; omega
  | ⟨1, _⟩ => show o1 + 1 * (x 1).val = o1 + (x 1).val; omega

/-! ## A unit of the convolution -/

section Defs
variable {F : FTy → Type} [FloatOps F]

/-- A tap's row of weights, over 72 rows of the slab from row `o`. -/
def tap (x : Vec F S96x128 .f32) (w : Vec F S1x128 .f32) (o : ℕ) (h : S96x128.Slices ![o, 0] S72x128) : FVec F S72x128 .f32 :=
  mulf (broadcastTo S72x128 (shapeCast S1x128 w shapeCasts_S1x128_S1x128) broadcasts_S1x128_S72x128) (extractStridedSlice S72x128 ![o, 0] x h)
/-- The same over 64 rows. -/
def tap0 (x : Vec F S96x128 .f32) (w : Vec F S1x128 .f32) (o : ℕ) (h : S96x128.Slices ![o, 0] S64x128) : FVec F S64x128 .f32 :=
  mulf (broadcastTo S64x128 (shapeCast S1x128 w shapeCasts_S1x128_S1x128) broadcasts_S1x128_S64x128) (extractStridedSlice S64x128 ![o, 0] x h)
/-- Three taps eight rows apart, -/
def add3 (x : Vec F S96x128 .f32) (a b c : Vec F S1x128 .f32) : FVec F S72x128 .f32 :=
  addf (addf (tap x a 24 slices_S96x128_o24_0_S72x128) (tap x b 16 slices_S96x128_o16_0_S72x128)) (tap x c 8 slices_S96x128_o8_0_S72x128)
/-- and four. -/
def add4 (x : Vec F S96x128 .f32) (a b c d : Vec F S1x128 .f32) : FVec F S72x128 .f32 :=
  addf (add3 x a b c) (tap x d 0 slices_S96x128_o0_0_S72x128)

/-- One unit: 31 taps over a slab of 96 rows, and the bias. -/
def convUnit (x : Vec F S96x128 .f32) (w : Fin 31 → Vec F S1x128 .f32) (cb : Vec F S1x128 .f32) : FVec F S64x128 .f32 :=
  addf
    (addf (addf (addf (addf (addf (addf (addf (addf (addf (addf (tap0 x (w ⟨30, by decide⟩) 32 slices_S96x128_o32_0_S64x128) (tap0 x (w ⟨22, by decide⟩) 24 slices_S96x128_o24_0_S64x128)) (tap0 x (w ⟨14, by decide⟩) 16 slices_S96x128_o16_0_S64x128)) (tap0 x (w ⟨6, by decide⟩) 8 slices_S96x128_o8_0_S64x128))
      (extractStridedSlice S64x128 ![7, 0] (add4 x (w ⟨29, by decide⟩) (w ⟨21, by decide⟩) (w ⟨13, by decide⟩) (w ⟨5, by decide⟩)) slices_S72x128_o7_0_S64x128))
      (extractStridedSlice S64x128 ![6, 0] (add4 x (w ⟨28, by decide⟩) (w ⟨20, by decide⟩) (w ⟨12, by decide⟩) (w ⟨4, by decide⟩)) slices_S72x128_o6_0_S64x128))
      (extractStridedSlice S64x128 ![5, 0] (add4 x (w ⟨27, by decide⟩) (w ⟨19, by decide⟩) (w ⟨11, by decide⟩) (w ⟨3, by decide⟩)) slices_S72x128_o5_0_S64x128))
      (extractStridedSlice S64x128 ![4, 0] (add4 x (w ⟨26, by decide⟩) (w ⟨18, by decide⟩) (w ⟨10, by decide⟩) (w ⟨2, by decide⟩)) slices_S72x128_o4_0_S64x128))
      (extractStridedSlice S64x128 ![3, 0] (add4 x (w ⟨25, by decide⟩) (w ⟨17, by decide⟩) (w ⟨9, by decide⟩) (w ⟨1, by decide⟩)) slices_S72x128_o3_0_S64x128))
      (extractStridedSlice S64x128 ![2, 0] (add4 x (w ⟨24, by decide⟩) (w ⟨16, by decide⟩) (w ⟨8, by decide⟩) (w ⟨0, by decide⟩)) slices_S72x128_o2_0_S64x128))
      (extractStridedSlice S64x128 ![1, 0] (add3 x (w ⟨23, by decide⟩) (w ⟨15, by decide⟩) (w ⟨7, by decide⟩)) slices_S72x128_o1_0_S64x128))
    (broadcastTo S64x128 (shapeCast S1x128 cb shapeCasts_S1x128_S1x128) broadcasts_S1x128_S64x128)

/-- A row block's mean. -/
def rowMean (y : FVec F S64x1024 .f32) : FVec F S64x1 .f32 :=
  divf (shapeCast S64x1 (multiReduction .add [1] S64 y 0x00000000#32 reduces_S64x1024_S64 (.inl rfl) rfl) shapeCasts_S64_S64x1)
    (broadcast S64x1 (Scalar.ofBits .f32 0x44800000#32))
/-- `x ↦ x/2 · tanh(x/2) + x/2`, -/
def siluV (x : FVec F S64x1024 .f32) : FVec F S64x1024 .f32 :=
  addf (mulf (mulf (broadcast S64x1024 (Scalar.ofBits .f32 0x3F000000#32)) x) (tanh (mulf (broadcast S64x1024 (Scalar.ofBits .f32 0x3F000000#32)) x)))
    (mulf (broadcast S64x1024 (Scalar.ofBits .f32 0x3F000000#32)) x)
/-- A row block less its mean. -/
def centred (y : FVec F S64x1024 .f32) : FVec F S64x1024 .f32 := subf y (broadcastTo S64x1024 (rowMean y) broadcasts_S64x1_S64x1024)
/-- One block of 64 rows of the layer norm, with its gate. -/
def lnUnit (y : Vec F S64x1024 .f32) (z : Vec F S64x1024 .bf16) (g b : Vec F S1x1024 .f32) : FVec F S64x1024 .bf16 :=
  truncf .bf16
    (mulf
      (siluV (addf (mulf (mulf (centred y)
          (broadcastTo S64x1024 (rsqrt (addf (rowMean (mulf (centred y) (centred y))) (broadcast S64x1 (Scalar.ofBits .f32 0x358637BD#32)))) broadcasts_S64x1_S64x1024))
          (broadcastTo S64x1024 (shapeCast S1x1024 g shapeCasts_S1x1024_S1x1024) broadcasts_S1x1024_S64x1024))
        (broadcastTo S64x1024 (shapeCast S1x1024 b shapeCasts_S1x1024_S1x1024) broadcasts_S1x1024_S64x1024)))
      (siluV (extf .f32 z bitsLt_bf16_f32)))
    bitsLt_bf16_f32
/-- One block of 64 rows of the gated linear unit. -/
def gluUnit (a g : Vec F S64x1024 .bf16) : FVec F S64x1024 .f32 :=
  mulf (extf .f32 a bitsLt_bf16_f32)
    (addf (mulf (broadcastTo S64x1024 (broadcast S1x1024 (Scalar.ofBits .f32 0x3F000000#32)) broadcasts_S1x1024_S64x1024)
        (tanh (mulf (broadcastTo S64x1024 (broadcast S1x1024 (Scalar.ofBits .f32 0x3F000000#32)) broadcasts_S1x1024_S64x1024) (extf .f32 g bitsLt_bf16_f32))))
      (broadcastTo S64x1024 (broadcast S1x1024 (Scalar.ofBits .f32 0x3F000000#32)) broadcasts_S1x1024_S64x1024))
/-- The normed rows times a block of 1024 rows of weights. -/
def mmUnit (w : Vec F S1024x1024 .f32) (u : Vec F S512x1024 .bf16) : FVec F S512x1024 .bf16 :=
  truncf .bf16 (matmul dot_S512x1024_S1024x1024_S512x1024_1_1_0_0_n_n none u
    (truncf .bf16 (shapeCast S1024x1024 w shapeCasts_S1024x1024_S1024x1024) bitsLt_bf16_f32) (constant S512x1024 .f32 0x00000000#32)) bitsLt_bf16_f32

end Defs

/-! ## At an element -/

/-- A half, as the programs write it, -/
def half : EReal := Ideal.ofBits .f32 0x3F000000#32
/-- 1024, -/
def n1024 : EReal := Ideal.ofBits .f32 0x44800000#32
/-- the norms' small term. -/
def eps : EReal := Ideal.ofBits .f32 0x358637BD#32

/-- The convolution of activations `B` (32 rows of history first) with weights `W` and bias `cb`, at row `p`, lane `l`. -/
def convv (W B : ℕ → ℕ → EReal) (cb : ℕ → EReal) (p l : ℕ) : EReal := (∑ j : Fin 31, W j.val l * B (p + 2 + j.val) l) + cb l
/-- A row's mean. -/
def meanv (r : ℕ → EReal) : EReal := Ideal.div (∑ l : Fin 1024, r l.val) n1024
/-- The kernel's SiLU. -/
def siluv (x : EReal) : EReal := half * x * Ideal.tanh (half * x) + half * x
/-- A row less its mean. -/
def cenv (r : ℕ → EReal) (l : ℕ) : EReal := r l - meanv r
/-- The layer norm of a row. -/
def lnv (r g b : ℕ → EReal) (l : ℕ) : EReal :=
  cenv r l * Ideal.rsqrt (meanv (fun k => cenv r k * cenv r k) + eps) * g l + b l
/-- The gated linear unit. -/
def gluv (a g : EReal) : EReal := a * (half * Ideal.tanh (half * g) + half)
/-- A product of rows. -/
def mmv (U W : ℕ → ℕ → EReal) (p e : ℕ) : EReal := ∑ d : Fin 1024, U p d.val * W e d.val

theorem tap_apply (x : Vec Ideal S96x128 .f32) (w : Vec Ideal S1x128 .f32) (o : ℕ) (h : S96x128.Slices ![o, 0] S72x128) (ho : o + 72 ≤ 96) (y : S72x128.Idx) :
    tap x w o h y = at2 w 0 (y 1).val * at2 x (o + (y 0).val) (y 1).val := by
  have y0 := idx2_lt0 y
  have y1 := idx2_lt1 y
  rw [tap, shapeCast_self, mulf_apply]
  refine congrArg₂ (· * ·) ?_ ?_
  · rw [at2_of w Nat.one_pos y1]
    exact broadcastTo_apply w _ y _ (fun a => by match a with | ⟨0, _⟩ => rfl | ⟨1, _⟩ => rfl)
  · rw [at2_of x (show o + (y 0).val < 96 by omega) y1]
    exact extractStridedSlice_apply _ x h y _ (fun a => by match a with | ⟨0, _⟩ => rfl | ⟨1, _⟩ => exact (Nat.zero_add _).symm)

theorem tap0_apply (x : Vec Ideal S96x128 .f32) (w : Vec Ideal S1x128 .f32) (o : ℕ) (h : S96x128.Slices ![o, 0] S64x128) (ho : o + 64 ≤ 96) (y : S64x128.Idx) :
    tap0 x w o h y = at2 w 0 (y 1).val * at2 x (o + (y 0).val) (y 1).val := by
  have y0 := idx2_lt0 y
  have y1 := idx2_lt1 y
  rw [tap0, shapeCast_self, mulf_apply]
  refine congrArg₂ (· * ·) ?_ ?_
  · rw [at2_of w Nat.one_pos y1]
    exact broadcastTo_apply w _ y _ (fun a => by match a with | ⟨0, _⟩ => rfl | ⟨1, _⟩ => rfl)
  · rw [at2_of x (show o + (y 0).val < 96 by omega) y1]
    exact extractStridedSlice_apply _ x h y _ (fun a => by match a with | ⟨0, _⟩ => rfl | ⟨1, _⟩ => exact (Nat.zero_add _).symm)

theorem rows_apply (v : FVec Ideal S72x128 .f32) (o : ℕ) (h : S72x128.Slices ![o, 0] S64x128) (ho : o + 64 ≤ 72) (y : S64x128.Idx) :
    extractStridedSlice S64x128 ![o, 0] v h y = v (ix2 ⟨o + (y 0).val, by have := idx2_lt0 y; omega⟩ ⟨(y 1).val, idx2_lt1 y⟩) :=
  extractStridedSlice_apply _ v h y _ (fun a => by match a with | ⟨0, _⟩ => rfl | ⟨1, _⟩ => exact (Nat.zero_add _).symm)

theorem bias_apply (cb : Vec Ideal S1x128 .f32) (y : S64x128.Idx) :
    broadcastTo S64x128 (shapeCast S1x128 cb shapeCasts_S1x128_S1x128) broadcasts_S1x128_S64x128 y = at2 cb 0 (y 1).val := by
  rw [shapeCast_self, at2_of cb Nat.one_pos (idx2_lt1 y)]
  exact broadcastTo_apply cb _ y _ (fun a => by match a with | ⟨0, _⟩ => rfl | ⟨1, _⟩ => rfl)

theorem convUnit_apply (x : Vec Ideal S96x128 .f32) (w : Fin 31 → Vec Ideal S1x128 .f32) (cb : Vec Ideal S1x128 .f32) (y : S64x128.Idx) :
    convUnit x w cb y = (∑ j : Fin 31, at2 (w j) 0 (y 1).val * at2 x ((y 0).val + 2 + j.val) (y 1).val) + at2 cb 0 (y 1).val := by
  have y0 := idx2_lt0 y
  unfold convUnit
  rw [addf_apply, bias_apply]
  refine congrArg (· + at2 cb 0 (y 1).val) ?_
  simp only [addf_apply, rows_apply _ _ _ (by decide : (7:ℕ) + 64 ≤ 72), rows_apply _ _ _ (by decide : (6:ℕ) + 64 ≤ 72),
    rows_apply _ _ _ (by decide : (5:ℕ) + 64 ≤ 72), rows_apply _ _ _ (by decide : (4:ℕ) + 64 ≤ 72), rows_apply _ _ _ (by decide : (3:ℕ) + 64 ≤ 72),
    rows_apply _ _ _ (by decide : (2:ℕ) + 64 ≤ 72), rows_apply _ _ _ (by decide : (1:ℕ) + 64 ≤ 72), add4, add3,
    tap_apply _ _ _ _ (by decide : (24:ℕ) + 72 ≤ 96), tap_apply _ _ _ _ (by decide : (16:ℕ) + 72 ≤ 96), tap_apply _ _ _ _ (by decide : (8:ℕ) + 72 ≤ 96),
    tap_apply _ _ _ _ (by decide : (0:ℕ) + 72 ≤ 96), tap0_apply _ _ _ _ (by decide : (32:ℕ) + 64 ≤ 96), tap0_apply _ _ _ _ (by decide : (24:ℕ) + 64 ≤ 96),
    tap0_apply _ _ _ _ (by decide : (16:ℕ) + 64 ≤ 96), tap0_apply _ _ _ _ (by decide : (8:ℕ) + 64 ≤ 96), ix2_0, ix2_1]
  generalize (y 1).val = l
  generalize (y 0).val = p at y0 ⊢
  rw [show (∑ j : Fin 31, at2 (w j) 0 l * at2 x (p + 2 + j.val) l) = ∑ j ∈ Finset.range 31, (if h : j < 31 then at2 (w ⟨j, h⟩) 0 l else 0) * at2 x (p + 2 + j) l from by
    rw [Finset.sum_range]; exact Finset.sum_congr rfl fun j _ => by rw [dif_pos j.isLt]]
  simp only [Finset.sum_range_succ, Finset.sum_range_zero, zero_add]
  simp (config := { decide := true }) only [dite_true, ↓reduceDIte]
  simp only [← Nat.add_assoc, Nat.reduceAdd]
  have hc : ∀ a b : ℕ, a + p + b = p + (a + b) := fun a b => by omega
  have hd : ∀ a b : ℕ, a + (b + p) = p + (a + b) := fun a b => by omega
  have he : ∀ a : ℕ, a + p = p + a := fun a => by omega
  simp only [hc, hd, he, Nat.add_assoc, Nat.reduceAdd]
  ac_rfl

/-! ## The layer norm, the gated linear unit, the products -/

theorem rowSum_apply (y : FVec Ideal S64x1024 .f32) (p : ℕ) (hp : p < 64) :
    shapeCast S64x1 (multiReduction .add [1] S64 y 0x00000000#32 reduces_S64x1024_S64 (.inl rfl) rfl) shapeCasts_S64_S64x1 (ix2 ⟨p, hp⟩ ⟨0, Nat.one_pos⟩)
      = ∑ l : Fin 1024, at2 y p l.val := by
  refine (shapeCast_apply _ shapeCasts_S64_S64x1 _ (ix1 ⟨p, hp⟩) ?_).trans ?_
  · rw [Shape.rowMajor_val_one, Shape.rowMajor_val_two]
    show p = p * 1 + 0
    omega
  · refine (Ideal.multiReduction_add_single y _ reduces_S64x1024_S64 (.inl rfl) rfl (ix1 ⟨p, hp⟩)).trans ?_
    refine Finset.sum_congr rfl fun l _ => ?_
    have hl : l.val < 1024 := l.isLt
    rw [at2_of y hp hl]
    refine congrArg y (funext fun k => Fin.ext ?_)
    match k with
    | ⟨0, _⟩ => rfl
    | ⟨1, _⟩ => rfl

theorem rowMean_apply (y : FVec Ideal S64x1024 .f32) (p : ℕ) (hp : p < 64) :
    rowMean y (ix2 ⟨p, hp⟩ ⟨0, Nat.one_pos⟩) = meanv (fun l => at2 y p l) := by
  unfold rowMean meanv
  rw [divf_apply, rowSum_apply]
  rfl

theorem col_apply (v : FVec Ideal S64x1 .f32) (y : S64x1024.Idx) :
    broadcastTo S64x1024 v broadcasts_S64x1_S64x1024 y = v (ix2 ⟨(y 0).val, idx2_lt0 y⟩ ⟨0, Nat.one_pos⟩) :=
  broadcastTo_apply v _ y _ (fun a => by match a with | ⟨0, _⟩ => rfl | ⟨1, _⟩ => rfl)

theorem row_apply (v : FVec Ideal S1x1024 .f32) (y : S64x1024.Idx) :
    broadcastTo S64x1024 v broadcasts_S1x1024_S64x1024 y = at2 v 0 (y 1).val := by
  rw [at2_of v Nat.one_pos (idx2_lt1 y)]
  exact broadcastTo_apply v _ y _ (fun a => by match a with | ⟨0, _⟩ => rfl | ⟨1, _⟩ => rfl)

theorem centred_apply (v : FVec Ideal S64x1024 .f32) (y : S64x1024.Idx) :
    centred v y = cenv (fun l => at2 v (y 0).val l) (y 1).val := by
  unfold centred cenv
  rw [subf_apply, col_apply, rowMean_apply]
  dsimp only
  rw [at2_idx]

theorem siluV_apply (v : FVec Ideal S64x1024 .f32) (y : S64x1024.Idx) : siluV v y = siluv (v y) := rfl

theorem lnUnit_apply (v : Vec Ideal S64x1024 .f32) (z : Vec Ideal S64x1024 .bf16) (g b : Vec Ideal S1x1024 .f32) (y : S64x1024.Idx) :
    lnUnit v z g b y = siluv (lnv (fun l => at2 v (y 0).val l) (at2 g 0) (at2 b 0) (y 1).val) * siluv (z y) := by
  unfold lnUnit
  rw [truncf_apply, mulf_apply, siluV_apply, siluV_apply, extf_apply, addf_apply, mulf_apply, mulf_apply, col_apply, row_apply, row_apply,
    shapeCast_self, shapeCast_self, centred_apply]
  refine congrArg (fun t => siluv t * siluv (z y)) ?_
  unfold lnv
  refine congrArg (fun t => cenv (fun l => at2 v (y 0).val l) (y 1).val * t * at2 g 0 (y 1).val + at2 b 0 (y 1).val) ?_
  refine congrArg Ideal.rsqrt ?_
  rw [addf_apply, rowMean_apply]
  refine congrArg (· + eps) ?_
  unfold meanv
  refine congrArg (Ideal.div · n1024) (Finset.sum_congr rfl fun k _ => ?_)
  dsimp only
  rw [at2_of _ (idx2_lt0 y) k.isLt, mulf_apply, centred_apply]

theorem gluUnit_apply (a g : Vec Ideal S64x1024 .bf16) (y : S64x1024.Idx) : gluUnit a g y = gluv (a y) (g y) := by
  unfold gluUnit
  have hh : broadcastTo S64x1024 (broadcast S1x1024 (Scalar.ofBits (F := Ideal) .f32 0x3F000000#32)) broadcasts_S1x1024_S64x1024 y = half := by
    rw [row_apply, at2_of _ Nat.one_pos (idx2_lt1 y)]
    rfl
  rw [mulf_apply, addf_apply, mulf_apply, hh]
  unfold gluv
  refine congrArg (a y * ·) (congrArg (· + half) (congrArg (half * ·) ?_))
  exact congrArg (fun t => Ideal.tanh (t * g y)) hh

theorem mmUnit_apply (w : Vec Ideal S1024x1024 .f32) (u : Vec Ideal S512x1024 .bf16) (y : S512x1024.Idx) :
    mmUnit w u y = mmv (at2 u) (at2 w) (y 0).val (y 1).val := by
  unfold mmUnit
  rw [truncf_apply, shapeCast_self, eq_ix2 y]
  refine (Ideal.matmul_transposedRhs_apply (M := 512) (K := 1024) (N := 1024) none u _ _ (y 0) (y 1)).trans ?_
  rw [constant_apply, Ideal.ofBits_zero_f32, zero_add]
  refine Finset.sum_congr rfl fun d _ => ?_
  rw [truncf_apply, at2_of u (idx2_lt0 y) d.isLt, at2_of w (idx2_lt1 y) d.isLt]
  rfl

end Cert.KernelIdeal.Value

end
-- ==== Proof.Value.Spec.lean ====
/-
  What each buffer holds after a region, as a function of what the region finds, and that each stored piece is the part of that function under
  its rectangle.
-/
import proofs.«01_k».proof.Proof.Value.Units

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

/-! ## The functions -/

/-- The convolution's sums. -/
def Gacc (w : S31x1024.Idx → EReal) (cb : S1x1024.Idx → EReal) (buf : S544x1024.Idx → EReal) (y : S512x1024.Idx) : EReal :=
  convv (at2 w) (at2 buf) (at2 cb 0) (y 0).val (y 1).val
/-- The convolution module's result. -/
def Gc (g b : S1x1024.Idx → EReal) (A Z : S512x1024.Idx → EReal) (y : S512x1024.Idx) : EReal :=
  siluv (lnv (at2 A (y 0).val) (at2 g 0) (at2 b 0) (y 1).val) * siluv (Z y)
/-- The projection. -/
def Gproj (W : S5120x1024.Idx → EReal) (U : S512x1024.Idx → EReal) (y : S512x5120.Idx) : EReal := mmv (at2 U) (at2 W) (y 0).val (y 1).val
/-- The two halves of the gated product. -/
def Gag (W : S3072x1024.Idx → EReal) (U : S512x1024.Idx → EReal) (y : S512x2048.Idx) : EReal := mmv (at2 U) (at2 W) (y 0).val (y 1).val
/-- The gate path. -/
def Gz (W : S3072x1024.Idx → EReal) (U : S512x1024.Idx → EReal) (y : S512x1024.Idx) : EReal := mmv (at2 U) (at2 W) (y 0).val (2048 + (y 1).val)
/-- The activations. -/
def glu2 (AG : S512x2048.Idx → EReal) (p l : ℕ) : EReal := gluv (at2 AG p l) (at2 AG p (1024 + l))
/-- The activations, with the history `H` before them. -/
def Gbuf (H : ℕ → ℕ → EReal) (AG : S512x2048.Idx → EReal) (y : S544x1024.Idx) : EReal :=
  if (y 0).val < 32 then H (y 0).val (y 1).val else glu2 AG ((y 0).val - 32) (y 1).val

/-! ## Writes that all agree with one function -/

section Good
variable {sig : RefSig} {κ : Kind} {sp : Space} {S : Shape} {e : EltTy} {Val : EltTy → Type} (v : View sig κ sp S e) (f : v.ty.Contents Val)

theorem good_cons {G : S.Idx → Val e} {P Q : S.Idx → Prop} {r : Rect S} {w : r.shape.Idx → Val e} {L : List (View.Piece Val S e)}
    (hw : ∀ x, G (r.emb x) = w x) (hPQ : ∀ y, P y → y ∉ r.set → Q y) (h : ∀ y, Q y → v.read Val (v.writes Val f L) y = G y) :
    ∀ y, P y → v.read Val (v.writes Val f (⟨r, w⟩ :: L)) y = G y := by
  intro y hy
  by_cases hm : y ∈ r.set
  · obtain ⟨x, rfl⟩ := r.exists_idx_of_mem hm
    rw [show r.idx x = r.emb x from rfl, View.read_writes_cons_emb]
    exact (hw x).symm
  · rw [View.writes_cons, View.read_slice_write_of_not_mem r _ _ _ (by rwa [Rect.map_emb_univ])]
    exact h y (hPQ y hy hm)

end Good

/-- The unit of the convolution that an element belongs to. -/
def key (y : S512x1024.Idx) : ℕ := (y 0).val / 64 * 8 + (y 1).val / 128

theorem mem_block {n m a b o0 o1 : ℕ} {inb : ∀ k : Fin 2, (![o0, o1] : Fin 2 → ℕ) k + (![a, b] : Fin 2 → ℕ) k ≤ (![n, m] : Fin 2 → ℕ) k}
    {y : (⟨2, ![n, m]⟩ : Shape).Idx} (h0 : o0 ≤ (y 0).val) (h0' : (y 0).val < o0 + a) (h1 : o1 ≤ (y 1).val) (h1' : (y 1).val < o1 + b) :
    y ∈ (Rect.unit (s := ⟨2, ![n, m]⟩) ![o0, o1] ![a, b] inb).set :=
  (Rect.mem_set_unit (s := ⟨2, ![n, m]⟩)).2 (fun k => by match k with | ⟨0, _⟩ => exact ⟨h0, h0'⟩ | ⟨1, _⟩ => exact ⟨h1, h1'⟩)

theorem key_step (t0 l0 n : ℕ) (hn : t0 / 64 * 8 + l0 / 128 = n) (ht : t0 % 64 = 0) (hl : l0 % 128 = 0) (hl' : l0 < 1024)
    {inb : ∀ k : Fin 2, (![t0, l0] : Fin 2 → ℕ) k + (![64, 128] : Fin 2 → ℕ) k ≤ (![512, 1024] : Fin 2 → ℕ) k} (y : S512x1024.Idx)
    (hy : key y < n + 1) (hm : y ∉ (Rect.unit (s := S512x1024) ![t0, l0] ![64, 128] inb).set) : key y < n := by
  refine Nat.lt_of_le_of_ne (Nat.le_of_lt_succ hy) fun he => hm ?_
  have y1 := idx2_lt1 y
  unfold key at he
  exact mem_block (by omega) (by omega) (by omega) (by omega)

theorem row_step {n m W : ℕ} (o a : ℕ)
    {inb : ∀ k : Fin 2, (![o, 0] : Fin 2 → ℕ) k + (![a, m] : Fin 2 → ℕ) k ≤ (![n, m] : Fin 2 → ℕ) k} (hW : W = o + a) (y : (⟨2, ![n, m]⟩ : Shape).Idx)
    (hy : (y 0).val < W) (hm : y ∉ (Rect.unit (s := ⟨2, ![n, m]⟩) ![o, 0] ![a, m] inb).set) : (y 0).val < o := by
  by_contra h
  exact hm (mem_block (by omega) (by omega) (Nat.zero_le _) (by have := idx2_lt1 y; omega))

theorem col_step {n m W : ℕ} (o a : ℕ)
    {inb : ∀ k : Fin 2, (![0, o] : Fin 2 → ℕ) k + (![n, a] : Fin 2 → ℕ) k ≤ (![n, m] : Fin 2 → ℕ) k} (hW : W = o + a) (y : (⟨2, ![n, m]⟩ : Shape).Idx)
    (hy : (y 1).val < W) (hm : y ∉ (Rect.unit (s := ⟨2, ![n, m]⟩) ![0, o] ![n, a] inb).set) : (y 1).val < o := by
  by_contra h
  exact hm (mem_block (Nat.zero_le _) (by have := idx2_lt0 y; omega) (by omega) (by omega))

theorem key_lt (n hi : ℕ) (h : hi / 64 * 8 ≤ n ∧ hi % 64 = 0) (y : S512x1024.Idx) (hy : (y 0).val < hi) : key y < n := by
  have y1 := idx2_lt1 y
  unfold key
  omega

/-! ## Each piece is its part of the function -/

/-- A block of a matrix, as a load reads it. -/
abbrev blk {n m : ℕ} (X : (⟨2, ![n, m]⟩ : Shape).Idx → EReal) (o0 o1 a b : ℕ)
    (inb : ∀ k : Fin 2, (![o0, o1] : Fin 2 → ℕ) k + (![a, b] : Fin 2 → ℕ) k ≤ (![n, m] : Fin 2 → ℕ) k) : (⟨2, ![a, b]⟩ : Shape).Idx → EReal :=
  fun x => X ((Rect.unit (s := ⟨2, ![n, m]⟩) ![o0, o1] ![a, b] inb).idx x)

theorem at2_blk {n m : ℕ} (X : (⟨2, ![n, m]⟩ : Shape).Idx → EReal) {o0 o1 a b : ℕ}
    (inb : ∀ k : Fin 2, (![o0, o1] : Fin 2 → ℕ) k + (![a, b] : Fin 2 → ℕ) k ≤ (![n, m] : Fin 2 → ℕ) k) {p l : ℕ} (hp : p < a) (hl : l < b) :
    at2 (blk X o0 o1 a b inb) p l = at2 X (o0 + p) (o1 + l) := by
  rw [at2_of _ hp hl]
  exact ld_apply X inb _

theorem inb2 {n m a b o0 o1 : ℕ} (h0 : o0 + a ≤ n) (h1 : o1 + b ≤ m) :
    ∀ k : Fin 2, (![o0, o1] : Fin 2 → ℕ) k + (![a, b] : Fin 2 → ℕ) k ≤ (![n, m] : Fin 2 → ℕ) k :=
  fun k => by match k with | ⟨0, _⟩ => exact h0 | ⟨1, _⟩ => exact h1

theorem conv_piece (w : S31x1024.Idx → EReal) (cb : S1x1024.Idx → EReal) (buf : S544x1024.Idx → EReal) (t0 l0 : ℕ) (ht : t0 + 64 ≤ 512) (hl : l0 + 128 ≤ 1024)
    (x : S64x128.Idx) :
    convUnit (F := Ideal) (blk buf t0 l0 96 128 (inb2 (by omega) hl)) (fun j => blk w j.val l0 1 128 (inb2 (by omega) hl))
        (blk cb 0 l0 1 128 (inb2 (by omega) hl)) x
      = Gacc w cb buf ((Rect.unit (s := S512x1024) ![t0, l0] ![64, 128] (inb2 ht hl)).emb x) := by
  have x0 := idx2_lt0 x
  have x1 := idx2_lt1 x
  refine (convUnit_apply _ _ _ x).trans ?_
  unfold Gacc convv
  have e0 : ((Rect.unit (s := S512x1024) ![t0, l0] ![64, 128] (inb2 ht hl)).emb x 0).val = t0 + (x 0).val := by
    show t0 + 1 * (x 0).val = _; omega
  have e1 : ((Rect.unit (s := S512x1024) ![t0, l0] ![64, 128] (inb2 ht hl)).emb x 1).val = l0 + (x 1).val := by
    show l0 + 1 * (x 1).val = _; omega
  rw [e0, e1, at2_blk cb _ Nat.one_pos x1]
  refine congrArg (· + at2 cb 0 (l0 + (x 1).val)) (Finset.sum_congr rfl fun j _ => ?_)
  have hj := j.isLt
  rw [at2_blk w _ Nat.one_pos x1, at2_blk buf _ (show (x 0).val + 2 + j.val < 96 by omega) x1]
  exact congrArg (fun q => at2 w j.val (l0 + (x 1).val) * at2 buf q (l0 + (x 1).val)) (by omega)

theorem ln_piece (g b : S1x1024.Idx → EReal) (A' A Z : S512x1024.Idx → EReal) (r0 : ℕ) (hr : r0 + 64 ≤ 512)
    (hA : ∀ y : S512x1024.Idx, (y 0).val < r0 + 64 → A' y = A y) (x : S64x1024.Idx) :
    lnUnit (F := Ideal) (blk A' r0 0 64 1024 (inb2 hr le_rfl)) (blk Z r0 0 64 1024 (inb2 hr le_rfl))
        (blk g 0 0 1 1024 (inb2 le_rfl le_rfl)) (blk b 0 0 1 1024 (inb2 le_rfl le_rfl)) x
      = Gc g b A Z ((Rect.unit (s := S512x1024) ![r0, 0] ![64, 1024] (inb2 hr le_rfl)).emb x) := by
  have x0 := idx2_lt0 x
  have x1 := idx2_lt1 x
  refine (lnUnit_apply _ _ _ _ x).trans ?_
  unfold Gc
  have e0 : ((Rect.unit (s := S512x1024) ![r0, 0] ![64, 1024] (inb2 hr le_rfl)).emb x 0).val = r0 + (x 0).val := by
    show r0 + 1 * (x 0).val = _; omega
  have e1 : ((Rect.unit (s := S512x1024) ![r0, 0] ![64, 1024] (inb2 hr le_rfl)).emb x 1).val = (x 1).val := by
    show 0 + 1 * (x 1).val = _; omega
  rw [e0, e1]
  have hrow : ∀ X : S1x1024.Idx → EReal, at2 (blk X 0 0 1 1024 (inb2 le_rfl le_rfl)) 0 = at2 X 0 := fun X => funext fun l => by
    by_cases hl : l < 1024
    · rw [at2_blk X _ Nat.one_pos hl, Nat.zero_add, Nat.zero_add]
    · unfold at2
      rw [dif_neg (fun h => hl h.2), dif_neg (fun h => hl h.2)]
  have hacc : (fun l => at2 (blk A' r0 0 64 1024 (inb2 hr le_rfl)) (x 0).val l) = at2 A (r0 + (x 0).val) := funext fun l => by
    by_cases hl : l < 1024
    · rw [at2_blk A' _ x0 hl, Nat.zero_add, at2_of A' (show r0 + (x 0).val < 512 by omega) hl, at2_of A (show r0 + (x 0).val < 512 by omega) hl]
      exact hA _ (by show r0 + (x 0).val < r0 + 64; omega)
    · unfold at2
      rw [dif_neg (fun h => hl h.2), dif_neg (fun h => hl h.2)]
  rw [hrow, hrow, hacc]
  rfl

theorem mm_block {N : ℕ} (W : (⟨2, ![N, 1024]⟩ : Shape).Idx → EReal) (U : S512x1024.Idx → EReal) (e0 : ℕ) (he : e0 + 1024 ≤ N) (x : S512x1024.Idx) :
    mmUnit (F := Ideal) (blk W e0 0 1024 1024 (inb2 he le_rfl)) (blk U 0 0 512 1024 (inb2 le_rfl le_rfl)) x
      = mmv (at2 U) (at2 W) (x 0).val (e0 + (x 1).val) := by
  have x0 := idx2_lt0 x
  have x1 := idx2_lt1 x
  refine (mmUnit_apply _ _ x).trans ?_
  unfold mmv
  refine Finset.sum_congr rfl fun d _ => ?_
  rw [at2_blk W _ x1 d.isLt, at2_blk U _ x0 d.isLt, Nat.zero_add, Nat.zero_add]

theorem proj_piece (W : S5120x1024.Idx → EReal) (U : S512x1024.Idx → EReal) (e0 : ℕ) (he : e0 + 1024 ≤ 5120) (x : S512x1024.Idx) :
    mmUnit (F := Ideal) (blk W e0 0 1024 1024 (inb2 he le_rfl)) (blk U 0 0 512 1024 (inb2 le_rfl le_rfl)) x
      = Gproj W U ((Rect.unit (s := S512x5120) ![0, e0] ![512, 1024] (inb2 le_rfl he)).emb x) := by
  refine (mm_block W U e0 he x).trans ?_
  unfold Gproj
  refine congrArg₂ (mmv (at2 U) (at2 W)) ?_ ?_
  · show _ = 0 + 1 * (x 0).val; omega
  · show _ = e0 + 1 * (x 1).val; omega

theorem ag_piece (W : S3072x1024.Idx → EReal) (U : S512x1024.Idx → EReal) (e0 : ℕ) (he : e0 + 1024 ≤ 2048) (x : S512x1024.Idx) :
    mmUnit (F := Ideal) (blk W e0 0 1024 1024 (inb2 (by omega) le_rfl)) (blk U 0 0 512 1024 (inb2 le_rfl le_rfl)) x
      = Gag W U ((Rect.unit (s := S512x2048) ![0, e0] ![512, 1024] (inb2 le_rfl he)).emb x) := by
  refine (mm_block W U e0 (by omega) x).trans ?_
  unfold Gag
  refine congrArg₂ (mmv (at2 U) (at2 W)) ?_ ?_
  · show _ = 0 + 1 * (x 0).val; omega
  · show _ = e0 + 1 * (x 1).val; omega

theorem z_piece (W : S3072x1024.Idx → EReal) (U : S512x1024.Idx → EReal) (x : S512x1024.Idx) :
    mmUnit (F := Ideal) (blk W 2048 0 1024 1024 (inb2 (by omega) le_rfl)) (blk U 0 0 512 1024 (inb2 le_rfl le_rfl)) x
      = Gz W U ((Rect.unit (s := S512x1024) ![0, 0] ![512, 1024] (inb2 le_rfl le_rfl)).emb x) := by
  refine (mm_block W U 2048 (by omega) x).trans ?_
  unfold Gz
  refine congrArg₂ (mmv (at2 U) (at2 W)) ?_ ?_
  · show _ = 0 + 1 * (x 0).val; omega
  · show _ = 2048 + (0 + 1 * (x 1).val); omega

theorem glu_piece (H : ℕ → ℕ → EReal) (AG : S512x2048.Idx → EReal) (r0 b0 : ℕ) (hr : r0 + 64 ≤ 512) (hb : b0 = 32 + r0) (x : S64x1024.Idx) :
    gluUnit (F := Ideal) (blk AG r0 0 64 1024 (inb2 hr (by omega))) (blk AG r0 1024 64 1024 (inb2 hr (by omega))) x
      = Gbuf H AG ((Rect.unit (s := S544x1024) ![b0, 0] ![64, 1024] (inb2 (by omega) le_rfl)).emb x) := by
  have x0 := idx2_lt0 x
  have x1 := idx2_lt1 x
  subst hb
  refine (gluUnit_apply _ _ x).trans ?_
  unfold Gbuf glu2
  have e0 : ((Rect.unit (s := S544x1024) ![32 + r0, 0] ![64, 1024] (inb2 (by omega) le_rfl)).emb x 0).val = 32 + r0 + (x 0).val := by
    show 32 + r0 + 1 * (x 0).val = _; omega
  have e1 : ((Rect.unit (s := S544x1024) ![32 + r0, 0] ![64, 1024] (inb2 (by omega) le_rfl)).emb x 1).val = (x 1).val := by
    show 0 + 1 * (x 1).val = _; omega
  rw [e0, e1, if_neg (by omega), show 32 + r0 + (x 0).val - 32 = r0 + (x 0).val by omega]
  refine congrArg₂ gluv ?_ ?_
  · exact (ld_apply AG _ x).trans (by rw [Nat.zero_add])
  · exact ld_apply AG _ x

/-! ## The same, of the text a store writes -/

section Stores
variable {sig : RefSig} {κ : Kind} {sp : Space}

/-- One unit of the convolution, stored. -/
theorem good_conv (v : View sig κ sp S512x1024 .f32) (f : v.ty.Contents (Elt Ideal)) (w : S31x1024.Idx → EReal) (cb : S1x1024.Idx → EReal)
    (buf : S544x1024.Idx → EReal) {t0 l0 n : ℕ} {inb : ∀ k : Fin 2, (![t0, l0] : Fin 2 → ℕ) k + (![64, 128] : Fin 2 → ℕ) k ≤ (![512, 1024] : Fin 2 → ℕ) k}
    {W : FVec Ideal S64x128 .f32} {L : List (View.Piece (Elt Ideal) S512x1024 .f32)}
    (hn : t0 / 64 * 8 + l0 / 128 = n) (ht : t0 % 64 = 0) (hl : l0 % 128 = 0)
    (hW : W = shapeCast (α := Ideal .f32) S64x128 (convUnit (F := Ideal) (blk buf t0 l0 96 128 (inb2 (by have : t0 + 64 ≤ 512 := inb 0; omega) (inb 1)))
      (fun j => blk w j.val l0 1 128 (inb2 (by omega) (inb 1))) (blk cb 0 l0 1 128 (inb2 (by omega) (inb 1)))) shapeCasts_S64x128_S64x128)
    (h : ∀ y, key y < n → v.read (Elt Ideal) (v.writes (Elt Ideal) f L) y = Gacc w cb buf y) :
    ∀ y, key y < n + 1 →
      v.read (Elt Ideal) (v.writes (Elt Ideal) f (⟨Rect.unit (s := S512x1024) ![t0, l0] ![64, 128] inb, W⟩ :: L)) y = Gacc w cb buf y := by
  have hl' : l0 + 128 ≤ 1024 := inb 1
  refine good_cons (Val := Elt Ideal) (e := .f32) v f (G := Gacc w cb buf) (Q := fun y => key y < n) ?_
    (fun y hy hm => key_step t0 l0 n hn ht hl (by omega) y hy hm) h
  intro x
  rw [hW, shapeCast_self]
  exact (conv_piece w cb buf t0 l0 (inb 0) (inb 1) x).symm

/-- A projection of 1024 columns, stored; -/
theorem good_proj (v : View sig κ sp S512x5120 .bf16) (f : v.ty.Contents (Elt Ideal)) (w : S5120x1024.Idx → EReal) (u : S512x1024.Idx → EReal) {e0 : ℕ}
    {inb : ∀ k : Fin 2, (![0, e0] : Fin 2 → ℕ) k + (![512, 1024] : Fin 2 → ℕ) k ≤ (![512, 5120] : Fin 2 → ℕ) k}
    {W : FVec Ideal S512x1024 .bf16} {L : List (View.Piece (Elt Ideal) S512x5120 .bf16)}
    (hW : W = mmUnit (F := Ideal) (blk w e0 0 1024 1024 (inb2 (by have : e0 + 1024 ≤ 5120 := inb 1; omega) le_rfl)) (blk u 0 0 512 1024 (inb2 le_rfl le_rfl)))
    (h : ∀ y, (y 1).val < e0 → v.read (Elt Ideal) (v.writes (Elt Ideal) f L) y = Gproj w u y) :
    ∀ y, (y 1).val < e0 + 1024 →
      v.read (Elt Ideal) (v.writes (Elt Ideal) f (⟨Rect.unit (s := S512x5120) ![0, e0] ![512, 1024] inb, W⟩ :: L)) y = Gproj w u y := by
  have he : e0 + 1024 ≤ 5120 := inb 1
  refine good_cons (Val := Elt Ideal) (e := .bf16) v f (G := Gproj w u) (Q := fun y => (y 1).val < e0) ?_ (fun y hy hm => col_step e0 1024 rfl y hy hm) h
  intro x
  rw [hW]
  exact (proj_piece w u e0 he x).symm

/-- the same of the gated product's halves, with the store's cast between equal shapes; -/
theorem good_ag (v : View sig κ sp S512x2048 .bf16) (f : v.ty.Contents (Elt Ideal)) (w : S3072x1024.Idx → EReal) (u : S512x1024.Idx → EReal) {e0 : ℕ}
    {inb : ∀ k : Fin 2, (![0, e0] : Fin 2 → ℕ) k + (![512, 1024] : Fin 2 → ℕ) k ≤ (![512, 2048] : Fin 2 → ℕ) k}
    {W : FVec Ideal S512x1024 .bf16} {L : List (View.Piece (Elt Ideal) S512x2048 .bf16)}
    (hW : W = shapeCast (α := Ideal .bf16) S512x1024 (mmUnit (F := Ideal) (blk w e0 0 1024 1024 (inb2 (by have : e0 + 1024 ≤ 2048 := inb 1; omega) le_rfl)) (blk u 0 0 512 1024 (inb2 le_rfl le_rfl))) shapeCasts_S512x1024_S512x1024)
    (h : ∀ y, (y 1).val < e0 → v.read (Elt Ideal) (v.writes (Elt Ideal) f L) y = Gag w u y) :
    ∀ y, (y 1).val < e0 + 1024 →
      v.read (Elt Ideal) (v.writes (Elt Ideal) f (⟨Rect.unit (s := S512x2048) ![0, e0] ![512, 1024] inb, W⟩ :: L)) y = Gag w u y := by
  have he : e0 + 1024 ≤ 2048 := inb 1
  refine good_cons (Val := Elt Ideal) (e := .bf16) v f (G := Gag w u) (Q := fun y => (y 1).val < e0) ?_ (fun y hy hm => col_step e0 1024 rfl y hy hm) h
  intro x
  rw [hW, shapeCast_self]
  exact (ag_piece w u e0 he x).symm

/-- and of the gate path. -/
theorem good_z (v : View sig κ sp S512x1024 .bf16) (f : v.ty.Contents (Elt Ideal)) (w : S3072x1024.Idx → EReal) (u : S512x1024.Idx → EReal)
    {inb : ∀ k : Fin 2, (![0, 0] : Fin 2 → ℕ) k + (![512, 1024] : Fin 2 → ℕ) k ≤ (![512, 1024] : Fin 2 → ℕ) k}
    {W : FVec Ideal S512x1024 .bf16} {L : List (View.Piece (Elt Ideal) S512x1024 .bf16)}
    (hW : W = shapeCast (α := Ideal .bf16) S512x1024 (mmUnit (F := Ideal) (blk w 2048 0 1024 1024 (inb2 (by omega) le_rfl))
      (blk u 0 0 512 1024 (inb2 le_rfl le_rfl))) shapeCasts_S512x1024_S512x1024) (y : S512x1024.Idx) :
    v.read (Elt Ideal) (v.writes (Elt Ideal) f (⟨Rect.unit (s := S512x1024) ![0, 0] ![512, 1024] inb, W⟩ :: L)) y = Gz w u y := by
  refine good_cons (Val := Elt Ideal) (e := .bf16) v f (G := Gz w u) (P := fun _ => True) (Q := fun _ => False) ?_
    (fun y _ hm => hm (mem_block (Nat.zero_le _) (by have := idx2_lt0 y; omega) (Nat.zero_le _) (by have := idx2_lt1 y; omega)))
    (fun _ h => h.elim) y trivial
  intro x
  rw [hW, shapeCast_self]
  exact (z_piece w u x).symm

/-- 64 rows of the layer norm, stored; -/
theorem good_ln (v : View sig κ sp S512x1024 .bf16) (f : v.ty.Contents (Elt Ideal)) (g b : S1x1024.Idx → EReal) (A' A Z : S512x1024.Idx → EReal) {r0 : ℕ}
    {inb : ∀ k : Fin 2, (![r0, 0] : Fin 2 → ℕ) k + (![64, 1024] : Fin 2 → ℕ) k ≤ (![512, 1024] : Fin 2 → ℕ) k}
    {W : FVec Ideal S64x1024 .bf16} {L : List (View.Piece (Elt Ideal) S512x1024 .bf16)}
    (hA : ∀ y : S512x1024.Idx, (y 0).val < r0 + 64 → A' y = A y)
    (hW : W = lnUnit (F := Ideal) (blk A' r0 0 64 1024 (inb2 (inb 0) le_rfl)) (blk Z r0 0 64 1024 (inb2 (inb 0) le_rfl))
        (blk g 0 0 1 1024 (inb2 le_rfl le_rfl)) (blk b 0 0 1 1024 (inb2 le_rfl le_rfl)))
    (h : ∀ y, (y 0).val < r0 → v.read (Elt Ideal) (v.writes (Elt Ideal) f L) y = Gc g b A Z y) :
    ∀ y, (y 0).val < r0 + 64 →
      v.read (Elt Ideal) (v.writes (Elt Ideal) f (⟨Rect.unit (s := S512x1024) ![r0, 0] ![64, 1024] inb, W⟩ :: L)) y = Gc g b A Z y := by
  refine good_cons (Val := Elt Ideal) (e := .bf16) v f (G := Gc g b A Z) (Q := fun y => (y 0).val < r0) ?_ (fun y hy hm => row_step r0 64 rfl y hy hm) h
  intro x
  rw [hW]
  exact (ln_piece g b A' A Z r0 (inb 0) hA x).symm

/-- 64 rows of activations, stored; -/
theorem good_glu (v : View sig κ sp S544x1024 .f32) (f : v.ty.Contents (Elt Ideal)) (H : ℕ → ℕ → EReal) (AG : S512x2048.Idx → EReal) {lo b0 : ℕ}
    {inb : ∀ k : Fin 2, (![b0, 0] : Fin 2 → ℕ) k + (![64, 1024] : Fin 2 → ℕ) k ≤ (![544, 1024] : Fin 2 → ℕ) k}
    {W : FVec Ideal S64x1024 .f32} {L : List (View.Piece (Elt Ideal) S544x1024 .f32)} (hb : 32 ≤ b0)
    (hW : W = shapeCast (α := Ideal .f32) S64x1024 (gluUnit (F := Ideal)
      (blk AG (b0 - 32) 0 64 1024 (inb2 (by have : b0 + 64 ≤ 544 := inb 0; omega) (by omega)))
      (blk AG (b0 - 32) 1024 64 1024 (inb2 (by have : b0 + 64 ≤ 544 := inb 0; omega) (by omega)))) shapeCasts_S64x1024_S64x1024)
    (h : ∀ y, lo ≤ (y 0).val ∧ (y 0).val < b0 → v.read (Elt Ideal) (v.writes (Elt Ideal) f L) y = Gbuf H AG y) :
    ∀ y, lo ≤ (y 0).val ∧ (y 0).val < b0 + 64 →
      v.read (Elt Ideal) (v.writes (Elt Ideal) f (⟨Rect.unit (s := S544x1024) ![b0, 0] ![64, 1024] inb, W⟩ :: L)) y = Gbuf H AG y := by
  refine good_cons (Val := Elt Ideal) (e := .f32) v f (G := Gbuf H AG) (Q := fun y => lo ≤ (y 0).val ∧ (y 0).val < b0) ?_
    (fun y hy hm => ⟨hy.1, row_step b0 64 rfl y hy.2 hm⟩) h
  intro x
  rw [hW, shapeCast_self]
  exact (glu_piece H AG (b0 - 32) b0 (by have : b0 + 64 ≤ 544 := inb 0; omega) (by omega) x).symm

/-- the 32 rows of history, stored. -/
theorem good_hist (v : View sig κ sp S544x1024 .f32) (f : v.ty.Contents (Elt Ideal)) (w0 : BitVec 32) (BUF : S544x1024.Idx → EReal) (AG : S512x2048.Idx → EReal)
    {hi : ℕ} {inb : ∀ k : Fin 2, (![0, 0] : Fin 2 → ℕ) k + (![32, 1024] : Fin 2 → ℕ) k ≤ (![544, 1024] : Fin 2 → ℕ) k}
    {W : FVec Ideal S32x1024 .f32} {L : List (View.Piece (Elt Ideal) S544x1024 .f32)}
    (hW : W = shapeCast (α := Ideal .f32) S32x1024 (k0_pay1719 (F := Ideal) w0 (blk BUF 512 0 32 1024 (inb2 (by omega) le_rfl))) shapeCasts_S32x1024_S32x1024)
    (h : ∀ y, 32 ≤ (y 0).val ∧ (y 0).val < hi → v.read (Elt Ideal) (v.writes (Elt Ideal) f L) y
      = Gbuf (at2 (k0_pay1719 (F := Ideal) w0 (blk BUF 512 0 32 1024 (inb2 (by omega) le_rfl)))) AG y) :
    ∀ y, 0 ≤ (y 0).val ∧ (y 0).val < hi →
      v.read (Elt Ideal) (v.writes (Elt Ideal) f (⟨Rect.unit (s := S544x1024) ![0, 0] ![32, 1024] inb, W⟩ :: L)) y
        = Gbuf (at2 (k0_pay1719 (F := Ideal) w0 (blk BUF 512 0 32 1024 (inb2 (by omega) le_rfl)))) AG y := by
  refine good_cons (Val := Elt Ideal) (e := .f32) v f
    (G := Gbuf (at2 (k0_pay1719 (F := Ideal) w0 (blk BUF 512 0 32 1024 (inb2 (by omega) le_rfl)))) AG)
    (Q := fun y => 32 ≤ (y 0).val ∧ (y 0).val < hi) ?_
    (fun y hy hm => ⟨by
      by_contra hlt
      exact hm (mem_block (Nat.zero_le _) (by omega) (Nat.zero_le _) (by have := idx2_lt1 y; omega)), hy.2⟩) h
  intro x
  rw [hW, shapeCast_self]
  have x0 := idx2_lt0 x
  have x1 := idx2_lt1 x
  have e0 : ((Rect.unit (s := S544x1024) ![0, 0] ![32, 1024] inb).emb x 0).val = (x 0).val := by
    show 0 + 1 * (x 0).val = _; omega
  have e1 : ((Rect.unit (s := S544x1024) ![0, 0] ![32, 1024] inb).emb x 1).val = (x 1).val := by
    show 0 + 1 * (x 1).val = _; omega
  unfold Gbuf
  rw [e0, e1, if_pos x0]
  exact at2_idx _ x

end Stores

end Cert.KernelIdeal.Value

end
-- ==== Proof.Value.Region1.lean ====
/-
  What region 1 leaves in the buffers it writes.
-/
import proofs.«01_k».proof.Proof.KernelIdeal.Region1
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (v33 c1 : BitVec 32) (t : Fin (k0_t1_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region1_acc (h : ∀ y, key y < 0 → M18.view.read (Elt Ideal) s.2.2.2.2.2 y = Gacc (M7.view.read (Elt Ideal) f7) (M8.view.read (Elt Ideal) f8) (M17.view.read (Elt Ideal) s.2.2.2.2.1) y) :
    ∀ y, key y < 11 → M18.view.read (Elt Ideal) (region1 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.2.2.2 y = Gacc (M7.view.read (Elt Ideal) f7) (M8.view.read (Elt Ideal) f8) (M17.view.read (Elt Ideal) s.2.2.2.2.1) y := by
  unfold region1
  dsimp only
  iterate 11
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region1_proj (h : ∀ y, (y 1).val < 0 → M11.view.read (Elt Ideal) s.1 y = Gproj (M3.view.read (Elt Ideal) f3) (M14.view.read (Elt Ideal) f14) y) :
    ∀ y, (y 1).val < 1024 → M11.view.read (Elt Ideal) (region1 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.1 y = Gproj (M3.view.read (Elt Ideal) f3) (M14.view.read (Elt Ideal) f14) y := by
  unfold region1
  dsimp only
  refine good_proj M11.view s.1 (M3.view.read (Elt Ideal) f3) (M14.view.read (Elt Ideal) f14) ?_ h
  rfl

end Cert.KernelIdeal.Value

end
-- ==== Proof.Value.Region2.lean ====
/-
  What region 2 leaves in the buffers it writes.
-/
import proofs.«01_k».proof.Proof.KernelIdeal.Region2
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (v33 c1 : BitVec 32) (t : Fin (k0_t3_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region2_acc (h : ∀ y, key y < 11 → M18.view.read (Elt Ideal) s.2.2.2.2.2 y = Gacc (M7.view.read (Elt Ideal) f7) (M8.view.read (Elt Ideal) f8) (M17.view.read (Elt Ideal) s.2.2.2.2.1) y) :
    ∀ y, key y < 20 → M18.view.read (Elt Ideal) (region2 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.2.2.2 y = Gacc (M7.view.read (Elt Ideal) f7) (M8.view.read (Elt Ideal) f8) (M17.view.read (Elt Ideal) s.2.2.2.2.1) y := by
  unfold region2
  dsimp only
  iterate 9
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region2_proj (h : ∀ y, (y 1).val < 1024 → M11.view.read (Elt Ideal) s.1 y = Gproj (M3.view.read (Elt Ideal) f3) (M14.view.read (Elt Ideal) f14) y) :
    ∀ y, (y 1).val < 2048 → M11.view.read (Elt Ideal) (region2 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.1 y = Gproj (M3.view.read (Elt Ideal) f3) (M14.view.read (Elt Ideal) f14) y := by
  unfold region2
  dsimp only
  refine good_proj M11.view s.1 (M3.view.read (Elt Ideal) f3) (M14.view.read (Elt Ideal) f14) ?_ h
  rfl
theorem region2_c (A : S512x1024.Idx → EReal) (hA : ∀ y, (y 0).val < 64 → M18.view.read (Elt Ideal) s.2.2.2.2.2 y = A y)
    (h : ∀ y, (y 0).val < 0 → M13.view.read (Elt Ideal) s.2.1 y = Gc (M9.view.read (Elt Ideal) f9) (M10.view.read (Elt Ideal) f10) A (M16.view.read (Elt Ideal) s.2.2.2.1) y) :
    ∀ y, (y 0).val < 64 → M13.view.read (Elt Ideal) (region2 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.1 y = Gc (M9.view.read (Elt Ideal) f9) (M10.view.read (Elt Ideal) f10) A (M16.view.read (Elt Ideal) s.2.2.2.1) y := by
  unfold region2
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl

end Cert.KernelIdeal.Value

end
-- ==== Proof.Value.Region3.lean ====
/-
  What region 3 leaves in the buffers it writes.
-/
import proofs.«01_k».proof.Proof.KernelIdeal.Region3
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (v33 c1 : BitVec 32) (t : Fin (k0_t5_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region3_acc (h : ∀ y, key y < 20 → M18.view.read (Elt Ideal) s.2.2.2.2.2 y = Gacc (M7.view.read (Elt Ideal) f7) (M8.view.read (Elt Ideal) f8) (M17.view.read (Elt Ideal) s.2.2.2.2.1) y) :
    ∀ y, key y < 29 → M18.view.read (Elt Ideal) (region3 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.2.2.2 y = Gacc (M7.view.read (Elt Ideal) f7) (M8.view.read (Elt Ideal) f8) (M17.view.read (Elt Ideal) s.2.2.2.2.1) y := by
  unfold region3
  dsimp only
  iterate 9
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region3_ag (h : ∀ y, (y 1).val < 0 → M15.view.read (Elt Ideal) s.2.2.1 y = Gag (M4.view.read (Elt Ideal) f4) (M14.view.read (Elt Ideal) f14) y) :
    ∀ y, (y 1).val < 1024 → M15.view.read (Elt Ideal) (region3 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.1 y = Gag (M4.view.read (Elt Ideal) f4) (M14.view.read (Elt Ideal) f14) y := by
  unfold region3
  dsimp only
  refine good_ag M15.view s.2.2.1 (M4.view.read (Elt Ideal) f4) (M14.view.read (Elt Ideal) f14) ?_ h
  rfl
theorem region3_c (A : S512x1024.Idx → EReal) (hA : ∀ y, (y 0).val < 128 → M18.view.read (Elt Ideal) s.2.2.2.2.2 y = A y)
    (h : ∀ y, (y 0).val < 64 → M13.view.read (Elt Ideal) s.2.1 y = Gc (M9.view.read (Elt Ideal) f9) (M10.view.read (Elt Ideal) f10) A (M16.view.read (Elt Ideal) s.2.2.2.1) y) :
    ∀ y, (y 0).val < 128 → M13.view.read (Elt Ideal) (region3 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.1 y = Gc (M9.view.read (Elt Ideal) f9) (M10.view.read (Elt Ideal) f10) A (M16.view.read (Elt Ideal) s.2.2.2.1) y := by
  unfold region3
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl

end Cert.KernelIdeal.Value

end
-- ==== Proof.Value.Region4.lean ====
/-
  What region 4 leaves in the buffers it writes.
-/
import proofs.«01_k».proof.Proof.KernelIdeal.Region4
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (v33 c1 : BitVec 32) (t : Fin (k0_t7_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region4_acc (h : ∀ y, key y < 29 → M18.view.read (Elt Ideal) s.2.2.2.2.2 y = Gacc (M7.view.read (Elt Ideal) f7) (M8.view.read (Elt Ideal) f8) (M17.view.read (Elt Ideal) s.2.2.2.2.1) y) :
    ∀ y, key y < 38 → M18.view.read (Elt Ideal) (region4 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.2.2.2 y = Gacc (M7.view.read (Elt Ideal) f7) (M8.view.read (Elt Ideal) f8) (M17.view.read (Elt Ideal) s.2.2.2.2.1) y := by
  unfold region4
  dsimp only
  iterate 9
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region4_ag (h : ∀ y, (y 1).val < 1024 → M15.view.read (Elt Ideal) s.2.2.1 y = Gag (M4.view.read (Elt Ideal) f4) (M14.view.read (Elt Ideal) f14) y) :
    ∀ y, (y 1).val < 2048 → M15.view.read (Elt Ideal) (region4 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.1 y = Gag (M4.view.read (Elt Ideal) f4) (M14.view.read (Elt Ideal) f14) y := by
  unfold region4
  dsimp only
  refine good_ag M15.view s.2.2.1 (M4.view.read (Elt Ideal) f4) (M14.view.read (Elt Ideal) f14) ?_ h
  rfl
theorem region4_c (A : S512x1024.Idx → EReal) (hA : ∀ y, (y 0).val < 192 → M18.view.read (Elt Ideal) s.2.2.2.2.2 y = A y)
    (h : ∀ y, (y 0).val < 128 → M13.view.read (Elt Ideal) s.2.1 y = Gc (M9.view.read (Elt Ideal) f9) (M10.view.read (Elt Ideal) f10) A (M16.view.read (Elt Ideal) s.2.2.2.1) y) :
    ∀ y, (y 0).val < 192 → M13.view.read (Elt Ideal) (region4 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.1 y = Gc (M9.view.read (Elt Ideal) f9) (M10.view.read (Elt Ideal) f10) A (M16.view.read (Elt Ideal) s.2.2.2.1) y := by
  unfold region4
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl

end Cert.KernelIdeal.Value

end
-- ==== Proof.Value.Region5.lean ====
/-
  What region 5 leaves in the buffers it writes.
-/
import proofs.«01_k».proof.Proof.KernelIdeal.Region5
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (v33 c1 : BitVec 32) (t : Fin (k0_t9_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region5_acc (h : ∀ y, key y < 38 → M18.view.read (Elt Ideal) s.2.2.2.2.2 y = Gacc (M7.view.read (Elt Ideal) f7) (M8.view.read (Elt Ideal) f8) (M17.view.read (Elt Ideal) s.2.2.2.2.1) y) :
    ∀ y, key y < 47 → M18.view.read (Elt Ideal) (region5 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.2.2.2.2 y = Gacc (M7.view.read (Elt Ideal) f7) (M8.view.read (Elt Ideal) f8) (M17.view.read (Elt Ideal) s.2.2.2.2.1) y := by
  unfold region5
  dsimp only
  iterate 9
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region5_proj (h : ∀ y, (y 1).val < 2048 → M11.view.read (Elt Ideal) s.1 y = Gproj (M3.view.read (Elt Ideal) f3) (M14.view.read (Elt Ideal) f14) y) :
    ∀ y, (y 1).val < 3072 → M11.view.read (Elt Ideal) (region5 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.1 y = Gproj (M3.view.read (Elt Ideal) f3) (M14.view.read (Elt Ideal) f14) y := by
  unfold region5
  dsimp only
  refine good_proj M11.view s.1 (M3.view.read (Elt Ideal) f3) (M14.view.read (Elt Ideal) f14) ?_ h
  rfl
theorem region5_c (A : S512x1024.Idx → EReal) (hA : ∀ y, (y 0).val < 256 → M18.view.read (Elt Ideal) s.2.2.2.2.2 y = A y)
    (h : ∀ y, (y 0).val < 192 → M13.view.read (Elt Ideal) s.2.1 y = Gc (M9.view.read (Elt Ideal) f9) (M10.view.read (Elt Ideal) f10) A (M16.view.read (Elt Ideal) s.2.2.2.1) y) :
    ∀ y, (y 0).val < 256 → M13.view.read (Elt Ideal) (region5 (F := Ideal) c i M1 h1 M2 h2 M3 h3 M4 h4 M5 h5 M6 h6 M7 h7 M8 h8 M9 h9 M10 h10 M11 h11 M12 h12 M13 h13 M14 h14 M15 h15 M16 h16 M17 h17 M18 h18 v33 c1 t f3 f4 f7 f8 f9 f10 f14 s).1.2.1 y = Gc (M9.view.read (Elt Ideal) f9) (M10.view.read (Elt Ideal) f10) A (M16.view.read (Elt Ideal) s.2.2.2.1) y := by
  unfold region5
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl

end Cert.KernelIdeal.Value

end
-- ==== Proof.Value.Region6.lean ====
/-
  What region 6 leaves in the buffers it writes.
-/
import proofs.«01_k».proof.Proof.KernelIdeal.Region6
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (t : Fin (k0_t11_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region6_acc (h : ∀ y, key y < 47 → M18.view.read (Elt Ideal) s.2.2.2.2.2 y = Gacc (M7.view.read (Elt Ideal) f7) (M8.view.read (Elt Ideal) f8) (M17.view.read (Elt Ideal) s.2.2.2.2.1) y) :
    ∀ y, key y < 56 → M18.view.read (Elt Ideal) (region6 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.2.2.2.2.2 y = Gacc (M7.view.read (Elt Ideal) f7) (M8.view.read (Elt Ideal) f8) (M17.view.read (Elt Ideal) s.2.2.2.2.1) y := by
  unfold region6
  dsimp only
  iterate 9
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region6_proj (h : ∀ y, (y 1).val < 3072 → M11.view.read (Elt Ideal) s.1 y = Gproj (M3.view.read (Elt Ideal) f3) (M14.view.read (Elt Ideal) f14) y) :
    ∀ y, (y 1).val < 4096 → M11.view.read (Elt Ideal) (region6 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.1 y = Gproj (M3.view.read (Elt Ideal) f3) (M14.view.read (Elt Ideal) f14) y := by
  unfold region6
  dsimp only
  refine good_proj M11.view s.1 (M3.view.read (Elt Ideal) f3) (M14.view.read (Elt Ideal) f14) ?_ h
  rfl
theorem region6_c (A : S512x1024.Idx → EReal) (hA : ∀ y, (y 0).val < 320 → M18.view.read (Elt Ideal) s.2.2.2.2.2 y = A y)
    (h : ∀ y, (y 0).val < 256 → M13.view.read (Elt Ideal) s.2.1 y = Gc (M9.view.read (Elt Ideal) f9) (M10.view.read (Elt Ideal) f10) A (M16.view.read (Elt Ideal) s.2.2.2.1) y) :
    ∀ y, (y 0).val < 320 → M13.view.read (Elt Ideal) (region6 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.2.1 y = Gc (M9.view.read (Elt Ideal) f9) (M10.view.read (Elt Ideal) f10) A (M16.view.read (Elt Ideal) s.2.2.2.1) y := by
  unfold region6
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl

end Cert.KernelIdeal.Value

end
-- ==== Proof.Value.Region7.lean ====
/-
  What region 7 leaves in the buffers it writes.
-/
import proofs.«01_k».proof.Proof.KernelIdeal.Region7
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (w0 : BitVec 32) (t : Fin (k0_t13_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region7_acc (h : ∀ y, key y < 56 → M18.view.read (Elt Ideal) s.2.2.2.2.2 y = Gacc (M7.view.read (Elt Ideal) f7) (M8.view.read (Elt Ideal) f8) (M17.view.read (Elt Ideal) s.2.2.2.2.1) y) :
    ∀ y, key y < 64 → M18.view.read (Elt Ideal) (region7 (F := Ideal) c i M1 h1 M2 h2 M3 h3 M4 h4 M5 h5 M6 h6 M7 h7 M8 h8 M9 h9 M10 h10 M11 h11 M12 h12 M13 h13 M14 h14 M15 h15 M16 h16 M17 h17 M18 h18 w0 t f3 f4 f7 f8 f9 f10 f14 s).1.2.2.2.2.2 y = Gacc (M7.view.read (Elt Ideal) f7) (M8.view.read (Elt Ideal) f8) (M17.view.read (Elt Ideal) s.2.2.2.2.1) y := by
  unfold region7
  dsimp only
  iterate 8
    refine good_conv M18.view s.2.2.2.2.2  (M7.view.read (Elt Ideal) f7) (M8.view.read (Elt Ideal) f8) (M17.view.read (Elt Ideal) s.2.2.2.2.1)  ?_ ?_ ?_ ?_ ?_
    · rfl
    · rfl
    · rfl
    · rfl
  exact h
theorem region7_proj (h : ∀ y, (y 1).val < 4096 → M11.view.read (Elt Ideal) s.1 y = Gproj (M3.view.read (Elt Ideal) f3) (M14.view.read (Elt Ideal) f14) y) :
    ∀ y, (y 1).val < 5120 → M11.view.read (Elt Ideal) (region7 (F := Ideal) c i M1 h1 M2 h2 M3 h3 M4 h4 M5 h5 M6 h6 M7 h7 M8 h8 M9 h9 M10 h10 M11 h11 M12 h12 M13 h13 M14 h14 M15 h15 M16 h16 M17 h17 M18 h18 w0 t f3 f4 f7 f8 f9 f10 f14 s).1.1 y = Gproj (M3.view.read (Elt Ideal) f3) (M14.view.read (Elt Ideal) f14) y := by
  unfold region7
  dsimp only
  refine good_proj M11.view s.1 (M3.view.read (Elt Ideal) f3) (M14.view.read (Elt Ideal) f14) ?_ h
  rfl
theorem region7_c (A : S512x1024.Idx → EReal) (hA : ∀ y, (y 0).val < 384 → M18.view.read (Elt Ideal) s.2.2.2.2.2 y = A y)
    (h : ∀ y, (y 0).val < 320 → M13.view.read (Elt Ideal) s.2.1 y = Gc (M9.view.read (Elt Ideal) f9) (M10.view.read (Elt Ideal) f10) A (M16.view.read (Elt Ideal) s.2.2.2.1) y) :
    ∀ y, (y 0).val < 384 → M13.view.read (Elt Ideal) (region7 (F := Ideal) c i M1 h1 M2 h2 M3 h3 M4 h4 M5 h5 M6 h6 M7 h7 M8 h8 M9 h9 M10 h10 M11 h11 M12 h12 M13 h13 M14 h14 M15 h15 M16 h16 M17 h17 M18 h18 w0 t f3 f4 f7 f8 f9 f10 f14 s).1.2.1 y = Gc (M9.view.read (Elt Ideal) f9) (M10.view.read (Elt Ideal) f10) A (M16.view.read (Elt Ideal) s.2.2.2.1) y := by
  unfold region7
  dsimp only
  refine good_ln M13.view s.2.1 (M9.view.read (Elt Ideal) f9) (M10.view.read (Elt Ideal) f10) (M18.view.read (Elt Ideal) s.2.2.2.2.2) A (M16.view.read (Elt Ideal) s.2.2.2.1) hA ?_ h
  rfl
theorem region7_buf : ∀ y, 0 ≤ (y 0).val ∧ (y 0).val < 288 → M17.view.read (Elt Ideal) (region7 (F := Ideal) c i M1 h1 M2 h2 M3 h3 M4 h4 M5 h5 M6 h6 M7 h7 M8 h8 M9 h9 M10 h10 M11 h11 M12 h12 M13 h13 M14 h14 M15 h15 M16 h16 M17 h17 M18 h18 w0 t f3 f4 f7 f8 f9 f10 f14 s).1.2.2.2.2.1 y = Gbuf (at2 (k0_pay1719 (F := Ideal) w0 (blk (M17.view.read (Elt Ideal) s.2.2.2.2.1) 512 0 32 1024 (inb2 (by omega) le_rfl)))) (M15.view.read (Elt Ideal) s.2.2.1) y := by
  unfold region7
  dsimp only
  refine good_hist M17.view s.2.2.2.2.1 w0 (M17.view.read (Elt Ideal) s.2.2.2.2.1) (M15.view.read (Elt Ideal) s.2.2.1) ?_ ?_
  · rfl
  iterate 4
    refine good_glu M17.view s.2.2.2.2.1 _ (M15.view.read (Elt Ideal) s.2.2.1) ?_ ?_ ?_
    · decide
    · rfl
  exact fun y hy => absurd hy.1 (Nat.not_le.2 hy.2)

end Cert.KernelIdeal.Value

end
-- ==== Proof.Value.Region8.lean ====
/-
  What region 8 leaves in the buffers it writes.
-/
import proofs.«01_k».proof.Proof.KernelIdeal.Region8
import proofs.«01_k».proof.Proof.Value.Spec

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (t : Fin (k0_t15_loop i).trips) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

theorem region8_c (A : S512x1024.Idx → EReal) (hA : ∀ y, (y 0).val < 512 → M18.view.read (Elt Ideal) s.2.2.2.2.2 y = A y)
    (h : ∀ y, (y 0).val < 384 → M13.view.read (Elt Ideal) s.2.1 y = Gc (M9.view.read (Elt Ideal) f9) (M10.view.read (Elt Ideal) f10) A (M16.view.read (Elt Ideal) s.2.2.2.1) y) :
    ∀ y, (y 0).val < 512 → M13.view.read (Elt Ideal) (region8 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.2.1 y = Gc (M9.view.read (Elt Ideal) f9) (M10.view.read (Elt Ideal) f10) A (M16.view.read (Elt Ideal) s.2.2.2.1) y := by
  unfold region8
  dsimp only
  iterate 2
    refine good_ln M13.view s.2.1 (M9.view.read (Elt Ideal) f9) (M10.view.read (Elt Ideal) f10) (M18.view.read (Elt Ideal) s.2.2.2.2.2) A (M16.view.read (Elt Ideal) s.2.2.2.1) (fun y hy => hA y (by omega)) ?_ ?_
    · rfl
  exact h
theorem region8_buf (H : ℕ → ℕ → EReal) (h : ∀ y, 0 ≤ (y 0).val ∧ (y 0).val < 288 → M17.view.read (Elt Ideal) s.2.2.2.2.1 y = Gbuf H (M15.view.read (Elt Ideal) s.2.2.1) y) :
    ∀ y, 0 ≤ (y 0).val ∧ (y 0).val < 544 → M17.view.read (Elt Ideal) (region8 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.2.2.2.2.1 y = Gbuf H (M15.view.read (Elt Ideal) s.2.2.1) y := by
  unfold region8
  dsimp only
  iterate 4
    refine good_glu M17.view s.2.2.2.2.1 _ (M15.view.read (Elt Ideal) s.2.2.1) ?_ ?_ ?_
    · decide
    · rfl
  exact h
theorem region8_z (y : S512x1024.Idx) : M16.view.read (Elt Ideal) (region8 (F := Ideal) c i M1 h1 M2 h2 M3 h3 M4 h4 M5 h5 M6 h6 M7 h7 M8 h8 M9 h9 M10 h10 M11 h11 M12 h12 M13 h13 M14 h14 M15 h15 M16 h16 M17 h17 M18 h18  t f3 f4 f7 f8 f9 f10 f14 s).1.2.2.2.1 y = Gz (M4.view.read (Elt Ideal) f4) (M14.view.read (Elt Ideal) f14) y := by
  unfold region8
  dsimp only
  exact good_z M16.view _ (M4.view.read (Elt Ideal) f4) (M14.view.read (Elt Ideal) f14) rfl y

end Cert.KernelIdeal.Value

end
-- ==== Proof.Value.Pre.lean ====
/-
  What the stretch before the loops leaves: the normed rows, the gates, and, past the first point, the gate path and the activations as it
  found them.
-/
import proofs.«01_k».proof.Proof.KernelIdeal.Body
import proofs.«01_k».proof.Proof.Value.Spec
import Idealize.ShloMosaic.Lib.VecWindow

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

/-- A row times its reciprocal root mean square and the norm's weight. -/
def rmsv (r g : ℕ → EReal) (l : ℕ) : EReal := r l * Ideal.rsqrt (meanv (fun k => r k * r k) + eps) * g l
/-- The normed rows. -/
def Gu (X : S512x1024.Idx → EReal) (g : S1x1024.Idx → EReal) (y : S512x1024.Idx) : EReal := rmsv (at2 X (y 0).val) (at2 g 0) (y 1).val
/-- The gates. -/
def Ggate (W : S8x1024.Idx → EReal) (bg : S8x1.Idx → EReal) (U : S512x1024.Idx → EReal) (y : S8x512.Idx) : EReal :=
  mmv (at2 W) (at2 U) (y 0).val (y 1).val + at2 bg (y 0).val 0

theorem rowSum512_apply (y : FVec Ideal S512x1024 .f32) (p : ℕ) (hp : p < 512) :
    shapeCast S512x1 (multiReduction .add [1] S512 y 0x00000000#32 reduces_S512x1024_S512 (.inl rfl) rfl) shapeCasts_S512_S512x1 (ix2 ⟨p, hp⟩ ⟨0, Nat.one_pos⟩)
      = ∑ l : Fin 1024, at2 y p l.val := by
  refine (shapeCast_apply _ shapeCasts_S512_S512x1 _ (ix1 ⟨p, hp⟩) ?_).trans ?_
  · rw [Shape.rowMajor_val_one, Shape.rowMajor_val_two]
    show p = p * 1 + 0
    omega
  · refine (Ideal.multiReduction_add_single y _ reduces_S512x1024_S512 (.inl rfl) rfl (ix1 ⟨p, hp⟩)).trans ?_
    refine Finset.sum_congr rfl fun l _ => ?_
    have hl : l.val < 1024 := l.isLt
    rw [at2_of y hp hl]
    refine congrArg y (funext fun k => Fin.ext ?_)
    match k with
    | ⟨0, _⟩ => rfl
    | ⟨1, _⟩ => rfl

theorem col512_apply (v : FVec Ideal S512x1 .f32) (y : S512x1024.Idx) :
    broadcastTo S512x1024 v broadcasts_S512x1_S512x1024 y = v (ix2 ⟨(y 0).val, idx2_lt0 y⟩ ⟨0, Nat.one_pos⟩) :=
  broadcastTo_apply v _ y _ (fun a => by match a with | ⟨0, _⟩ => rfl | ⟨1, _⟩ => rfl)

theorem row512_apply (v : FVec Ideal S1x1024 .f32) (y : S512x1024.Idx) :
    broadcastTo S512x1024 v broadcasts_S1x1024_S512x1024 y = at2 v 0 (y 1).val := by
  rw [at2_of v Nat.one_pos (idx2_lt1 y)]
  exact broadcastTo_apply v _ y _ (fun a => by match a with | ⟨0, _⟩ => rfl | ⟨1, _⟩ => rfl)

theorem pay_u (x : Vec Ideal S512x1024 .f32) (g : Vec Ideal S1x1024 .f32) : k0_pay1899 (F := Ideal) x g = Gu x g := by
  funext y
  unfold k0_pay1899
  dsimp only
  rw [shapeCast_self, shapeCast_self, shapeCast_self, truncf_apply, mulf_apply, mulf_apply, col512_apply, row512_apply]
  unfold Gu rmsv
  rw [at2_idx]
  refine congrArg (fun t => x y * t * at2 g 0 (y 1).val) (congrArg Ideal.rsqrt ?_)
  rw [addf_apply, divf_apply]
  refine congrArg (· + eps) ?_
  unfold meanv
  refine congrArg (Ideal.div · n1024) ((rowSum512_apply _ _ _).trans (Finset.sum_congr rfl fun k _ => ?_))
  dsimp only
  rw [at2_of _ (idx2_lt0 y) k.isLt, mulf_apply, at2_of x (idx2_lt0 y) k.isLt]

theorem pay_gate (w : Vec Ideal S8x1024 .f32) (u : Vec Ideal S512x1024 .bf16) (b : Vec Ideal S8x1 .f32) : k0_pay1900 (F := Ideal) w u b = Ggate w b u := by
  funext y
  unfold k0_pay1900 Ggate mmv
  dsimp only
  rw [shapeCast_self, shapeCast_self, addf_apply]
  refine congrArg₂ (· + ·) ?_ ?_
  · refine (congrArg _ (eq_ix2 y)).trans ((Ideal.matmul_transposedRhs_apply (M := 8) (K := 1024) (N := 512) none _ u _ (y 0) (y 1)).trans ?_)
    rw [constant_apply, Ideal.ofBits_zero_f32, zero_add]
    refine Finset.sum_congr rfl fun d _ => ?_
    rw [truncf_apply, at2_of w (idx2_lt0 y) d.isLt, at2_of u (idx2_lt1 y) d.isLt]
    rfl
  · rw [at2_of b (idx2_lt0 y) Nat.one_pos]
    exact broadcastTo_apply b _ y _ (fun a => by match a with | ⟨0, _⟩ => rfl | ⟨1, _⟩ => rfl)

theorem blk_whole {n m : ℕ} (X : (⟨2, ![n, m]⟩ : Shape).Idx → EReal)
    (inb : ∀ k : Fin 2, (![0, 0] : Fin 2 → ℕ) k + (![n, m] : Fin 2 → ℕ) k ≤ (![n, m] : Fin 2 → ℕ) k) : blk X 0 0 n m inb = X :=
  funext fun x => (ld_apply X inb x).trans (by rw [Nat.zero_add, Nat.zero_add, at2_idx])

end Cert.KernelIdeal.Value

end
-- ==== Proof.Value.Step.lean ====
/-
  What the whole body leaves at one point, from what it finds.
-/
import proofs.«01_k».proof.Proof.Value.Region1
import proofs.«01_k».proof.Proof.Value.Region2
import proofs.«01_k».proof.Proof.Value.Region3
import proofs.«01_k».proof.Proof.Value.Region4
import proofs.«01_k».proof.Proof.Value.Region5
import proofs.«01_k».proof.Proof.Value.Region6
import proofs.«01_k».proof.Proof.Value.Region7
import proofs.«01_k».proof.Proof.Value.Region8
import proofs.«01_k».proof.Proof.Value.Pre

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

theorem read_whole {sig : RefSig} {κ : Kind} {sp : Space} {n m : ℕ} {e : EltTy} (v : View sig κ sp ⟨2, ![n, m]⟩ e) (f : v.ty.Contents (Elt Ideal))
    {inb : ∀ k : Fin 2, (![0, 0] : Fin 2 → ℕ) k + (![n, m] : Fin 2 → ℕ) k ≤ (![n, m] : Fin 2 → ℕ) k} {W : (⟨2, ![n, m]⟩ : Shape).Idx → Elt Ideal e}
    {L : List (View.Piece (Elt Ideal) ⟨2, ![n, m]⟩ e)} :
    v.read (Elt Ideal) (v.writes (Elt Ideal) f (⟨Rect.unit (s := ⟨2, ![n, m]⟩) ![0, 0] ![n, m] inb, W⟩ :: L)) = W := by
  funext y
  refine good_cons (Val := Elt Ideal) (e := e) v f (G := W) (P := fun _ => True) (Q := fun _ => False) ?_
    (fun y _ hm => hm (mem_block (Nat.zero_le _) (by have := idx2_lt0 y; omega) (Nat.zero_le _) (by have := idx2_lt1 y; omega)))
    (fun _ h => h.elim) y trivial
  intro x
  refine congrArg W (funext fun k => Fin.ext ?_)
  match k with
  | ⟨0, _⟩ => show 0 + 1 * (x 0).val = (x 0).val; omega
  | ⟨1, _⟩ => show 0 + 1 * (x 1).val = (x 1).val; omega

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (f1 : Bf (F := Ideal) c M1) (f2 : Bf (F := Ideal) c M2) (f5 : Bf (F := Ideal) c M5) (f6 : Bf (F := Ideal) c M6) (f12 : Bf (F := Ideal) c M12) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

/-! ## The eight regions -/

theorem step3_same_proj : (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 = s.1 := by
  unfold step3 region3
  rfl
theorem step4_same_proj : (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 = s.1 := by
  unfold step4 region4
  rfl
theorem step8_same_proj : (step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 = s.1 := by
  unfold step8 region8
  rfl
theorem step5_same_ag : (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 = s.2.2.1 := by
  unfold step5 region5
  rfl
theorem step6_same_ag : (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 = s.2.2.1 := by
  unfold step6 region6
  rfl
theorem step7_same_ag : (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 = s.2.2.1 := by
  unfold step7 region7
  rfl
theorem step8_same_ag : (step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 = s.2.2.1 := by
  unfold step8 region8
  rfl
theorem step1_same_z : (step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step1 region1
  rfl
theorem step2_same_z : (step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step2 region2
  rfl
theorem step3_same_z : (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step3 region3
  rfl
theorem step4_same_z : (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step4 region4
  rfl
theorem step5_same_z : (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step5 region5
  rfl
theorem step6_same_z : (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step6 region6
  rfl
theorem step7_same_z : (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = s.2.2.2.1 := by
  unfold step7 region7
  rfl
theorem step1_same_buf : (step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step1 region1
  rfl
theorem step2_same_buf : (step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step2 region2
  rfl
theorem step3_same_buf : (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step3 region3
  rfl
theorem step4_same_buf : (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step4 region4
  rfl
theorem step5_same_buf : (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step5 region5
  rfl
theorem step6_same_buf : (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = s.2.2.2.2.1 := by
  unfold step6 region6
  rfl
theorem step1_acc (h : ∀ y, key y < 0 → M18.view.read (Elt Ideal) s.2.2.2.2.2 y = Gacc (M7.view.read (Elt Ideal) f7) (M8.view.read (Elt Ideal) f8) (M17.view.read (Elt Ideal) s.2.2.2.2.1) y) :
    ∀ y, key y < 11 → M18.view.read (Elt Ideal) (step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region1_acc c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips1]; exact Nat.one_pos⟩ f3 f4 f7 f8 f9 f10 f14 s h
theorem step1_proj (h : ∀ y, (y 1).val < 0 → M11.view.read (Elt Ideal) s.1 y = Gproj (M3.view.read (Elt Ideal) f3) (M14.view.read (Elt Ideal) f14) y) :
    ∀ y, (y 1).val < 1024 → M11.view.read (Elt Ideal) (step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 y = Gproj (M3.view.read (Elt Ideal) f3) (M14.view.read (Elt Ideal) f14) y :=
  region1_proj c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips1]; exact Nat.one_pos⟩ f3 f4 f7 f8 f9 f10 f14 s h
theorem step2_acc (h : ∀ y, key y < 11 → M18.view.read (Elt Ideal) s.2.2.2.2.2 y = Gacc (M7.view.read (Elt Ideal) f7) (M8.view.read (Elt Ideal) f8) (M17.view.read (Elt Ideal) s.2.2.2.2.1) y) :
    ∀ y, key y < 20 → M18.view.read (Elt Ideal) (step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region2_acc c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips2]; exact Nat.one_pos⟩ f3 f4 f7 f8 f9 f10 f14 s h
theorem step2_proj (h : ∀ y, (y 1).val < 1024 → M11.view.read (Elt Ideal) s.1 y = Gproj (M3.view.read (Elt Ideal) f3) (M14.view.read (Elt Ideal) f14) y) :
    ∀ y, (y 1).val < 2048 → M11.view.read (Elt Ideal) (step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 y = Gproj (M3.view.read (Elt Ideal) f3) (M14.view.read (Elt Ideal) f14) y :=
  region2_proj c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips2]; exact Nat.one_pos⟩ f3 f4 f7 f8 f9 f10 f14 s h
theorem step2_c (A : S512x1024.Idx → EReal) (hA : ∀ y, (y 0).val < 64 → M18.view.read (Elt Ideal) s.2.2.2.2.2 y = A y) (h : ∀ y, (y 0).val < 0 → M13.view.read (Elt Ideal) s.2.1 y = Gc (M9.view.read (Elt Ideal) f9) (M10.view.read (Elt Ideal) f10) A (M16.view.read (Elt Ideal) s.2.2.2.1) y) :
    ∀ y, (y 0).val < 64 → M13.view.read (Elt Ideal) (step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region2_c c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips2]; exact Nat.one_pos⟩ f3 f4 f7 f8 f9 f10 f14 s A hA h
theorem step3_acc (h : ∀ y, key y < 20 → M18.view.read (Elt Ideal) s.2.2.2.2.2 y = Gacc (M7.view.read (Elt Ideal) f7) (M8.view.read (Elt Ideal) f8) (M17.view.read (Elt Ideal) s.2.2.2.2.1) y) :
    ∀ y, key y < 29 → M18.view.read (Elt Ideal) (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region3_acc c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips3]; exact Nat.one_pos⟩ f3 f4 f7 f8 f9 f10 f14 s h
theorem step3_ag (h : ∀ y, (y 1).val < 0 → M15.view.read (Elt Ideal) s.2.2.1 y = Gag (M4.view.read (Elt Ideal) f4) (M14.view.read (Elt Ideal) f14) y) :
    ∀ y, (y 1).val < 1024 → M15.view.read (Elt Ideal) (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 y = Gag (M4.view.read (Elt Ideal) f4) (M14.view.read (Elt Ideal) f14) y :=
  region3_ag c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips3]; exact Nat.one_pos⟩ f3 f4 f7 f8 f9 f10 f14 s h
theorem step3_c (A : S512x1024.Idx → EReal) (hA : ∀ y, (y 0).val < 128 → M18.view.read (Elt Ideal) s.2.2.2.2.2 y = A y) (h : ∀ y, (y 0).val < 64 → M13.view.read (Elt Ideal) s.2.1 y = Gc (M9.view.read (Elt Ideal) f9) (M10.view.read (Elt Ideal) f10) A (M16.view.read (Elt Ideal) s.2.2.2.1) y) :
    ∀ y, (y 0).val < 128 → M13.view.read (Elt Ideal) (step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region3_c c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips3]; exact Nat.one_pos⟩ f3 f4 f7 f8 f9 f10 f14 s A hA h
theorem step4_acc (h : ∀ y, key y < 29 → M18.view.read (Elt Ideal) s.2.2.2.2.2 y = Gacc (M7.view.read (Elt Ideal) f7) (M8.view.read (Elt Ideal) f8) (M17.view.read (Elt Ideal) s.2.2.2.2.1) y) :
    ∀ y, key y < 38 → M18.view.read (Elt Ideal) (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region4_acc c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips4]; exact Nat.one_pos⟩ f3 f4 f7 f8 f9 f10 f14 s h
theorem step4_ag (h : ∀ y, (y 1).val < 1024 → M15.view.read (Elt Ideal) s.2.2.1 y = Gag (M4.view.read (Elt Ideal) f4) (M14.view.read (Elt Ideal) f14) y) :
    ∀ y, (y 1).val < 2048 → M15.view.read (Elt Ideal) (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.1 y = Gag (M4.view.read (Elt Ideal) f4) (M14.view.read (Elt Ideal) f14) y :=
  region4_ag c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips4]; exact Nat.one_pos⟩ f3 f4 f7 f8 f9 f10 f14 s h
theorem step4_c (A : S512x1024.Idx → EReal) (hA : ∀ y, (y 0).val < 192 → M18.view.read (Elt Ideal) s.2.2.2.2.2 y = A y) (h : ∀ y, (y 0).val < 128 → M13.view.read (Elt Ideal) s.2.1 y = Gc (M9.view.read (Elt Ideal) f9) (M10.view.read (Elt Ideal) f10) A (M16.view.read (Elt Ideal) s.2.2.2.1) y) :
    ∀ y, (y 0).val < 192 → M13.view.read (Elt Ideal) (step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region4_c c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips4]; exact Nat.one_pos⟩ f3 f4 f7 f8 f9 f10 f14 s A hA h
theorem step5_acc (h : ∀ y, key y < 38 → M18.view.read (Elt Ideal) s.2.2.2.2.2 y = Gacc (M7.view.read (Elt Ideal) f7) (M8.view.read (Elt Ideal) f8) (M17.view.read (Elt Ideal) s.2.2.2.2.1) y) :
    ∀ y, key y < 47 → M18.view.read (Elt Ideal) (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region5_acc c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips5]; exact Nat.one_pos⟩ f3 f4 f7 f8 f9 f10 f14 s h
theorem step5_proj (h : ∀ y, (y 1).val < 2048 → M11.view.read (Elt Ideal) s.1 y = Gproj (M3.view.read (Elt Ideal) f3) (M14.view.read (Elt Ideal) f14) y) :
    ∀ y, (y 1).val < 3072 → M11.view.read (Elt Ideal) (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 y = Gproj (M3.view.read (Elt Ideal) f3) (M14.view.read (Elt Ideal) f14) y :=
  region5_proj c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips5]; exact Nat.one_pos⟩ f3 f4 f7 f8 f9 f10 f14 s h
theorem step5_c (A : S512x1024.Idx → EReal) (hA : ∀ y, (y 0).val < 256 → M18.view.read (Elt Ideal) s.2.2.2.2.2 y = A y) (h : ∀ y, (y 0).val < 192 → M13.view.read (Elt Ideal) s.2.1 y = Gc (M9.view.read (Elt Ideal) f9) (M10.view.read (Elt Ideal) f10) A (M16.view.read (Elt Ideal) s.2.2.2.1) y) :
    ∀ y, (y 0).val < 256 → M13.view.read (Elt Ideal) (step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region5_c c i M1 h1 M2 h2 M3 h3 M4 h4 M5 h5 M6 h6 M7 h7 M8 h8 M9 h9 M10 h10 M11 h11 M12 h12 M13 h13 M14 h14 M15 h15 M16 h16 M17 h17 M18 h18 (Scalar.minsi (BitVec.ofNat 32 (i 0).val) 0#32) 1#32 ⟨0, by rw [trips5]; exact Nat.one_pos⟩ f3 f4 f7 f8 f9 f10 f14 s A hA h
theorem step6_acc (h : ∀ y, key y < 47 → M18.view.read (Elt Ideal) s.2.2.2.2.2 y = Gacc (M7.view.read (Elt Ideal) f7) (M8.view.read (Elt Ideal) f8) (M17.view.read (Elt Ideal) s.2.2.2.2.1) y) :
    ∀ y, key y < 56 → M18.view.read (Elt Ideal) (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region6_acc c i M1 h1 M2 h2 M3 h3 M4 h4 M5 h5 M6 h6 M7 h7 M8 h8 M9 h9 M10 h10 M11 h11 M12 h12 M13 h13 M14 h14 M15 h15 M16 h16 M17 h17 M18 h18  ⟨0, by rw [trips6]; exact Nat.one_pos⟩ f3 f4 f7 f8 f9 f10 f14 s h
theorem step6_proj (h : ∀ y, (y 1).val < 3072 → M11.view.read (Elt Ideal) s.1 y = Gproj (M3.view.read (Elt Ideal) f3) (M14.view.read (Elt Ideal) f14) y) :
    ∀ y, (y 1).val < 4096 → M11.view.read (Elt Ideal) (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 y = Gproj (M3.view.read (Elt Ideal) f3) (M14.view.read (Elt Ideal) f14) y :=
  region6_proj c i M1 h1 M2 h2 M3 h3 M4 h4 M5 h5 M6 h6 M7 h7 M8 h8 M9 h9 M10 h10 M11 h11 M12 h12 M13 h13 M14 h14 M15 h15 M16 h16 M17 h17 M18 h18  ⟨0, by rw [trips6]; exact Nat.one_pos⟩ f3 f4 f7 f8 f9 f10 f14 s h
theorem step6_c (A : S512x1024.Idx → EReal) (hA : ∀ y, (y 0).val < 320 → M18.view.read (Elt Ideal) s.2.2.2.2.2 y = A y) (h : ∀ y, (y 0).val < 256 → M13.view.read (Elt Ideal) s.2.1 y = Gc (M9.view.read (Elt Ideal) f9) (M10.view.read (Elt Ideal) f10) A (M16.view.read (Elt Ideal) s.2.2.2.1) y) :
    ∀ y, (y 0).val < 320 → M13.view.read (Elt Ideal) (step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region6_c c i M1 h1 M2 h2 M3 h3 M4 h4 M5 h5 M6 h6 M7 h7 M8 h8 M9 h9 M10 h10 M11 h11 M12 h12 M13 h13 M14 h14 M15 h15 M16 h16 M17 h17 M18 h18  ⟨0, by rw [trips6]; exact Nat.one_pos⟩ f3 f4 f7 f8 f9 f10 f14 s A hA h
theorem step7_acc (h : ∀ y, key y < 56 → M18.view.read (Elt Ideal) s.2.2.2.2.2 y = Gacc (M7.view.read (Elt Ideal) f7) (M8.view.read (Elt Ideal) f8) (M17.view.read (Elt Ideal) s.2.2.2.2.1) y) :
    ∀ y, key y < 64 → M18.view.read (Elt Ideal) (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.2 y = Gacc (M7.view.read (Elt Ideal) f7) (M8.view.read (Elt Ideal) f8) (M17.view.read (Elt Ideal) s.2.2.2.2.1) y :=
  region7_acc c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, by rw [trips7]; exact Nat.one_pos⟩ f3 f4 f7 f8 f9 f10 f14 s h
theorem step7_proj (h : ∀ y, (y 1).val < 4096 → M11.view.read (Elt Ideal) s.1 y = Gproj (M3.view.read (Elt Ideal) f3) (M14.view.read (Elt Ideal) f14) y) :
    ∀ y, (y 1).val < 5120 → M11.view.read (Elt Ideal) (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 y = Gproj (M3.view.read (Elt Ideal) f3) (M14.view.read (Elt Ideal) f14) y :=
  region7_proj c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, by rw [trips7]; exact Nat.one_pos⟩ f3 f4 f7 f8 f9 f10 f14 s h
theorem step7_c (A : S512x1024.Idx → EReal) (hA : ∀ y, (y 0).val < 384 → M18.view.read (Elt Ideal) s.2.2.2.2.2 y = A y) (h : ∀ y, (y 0).val < 320 → M13.view.read (Elt Ideal) s.2.1 y = Gc (M9.view.read (Elt Ideal) f9) (M10.view.read (Elt Ideal) f10) A (M16.view.read (Elt Ideal) s.2.2.2.1) y) :
    ∀ y, (y 0).val < 384 → M13.view.read (Elt Ideal) (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region7_c c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, by rw [trips7]; exact Nat.one_pos⟩ f3 f4 f7 f8 f9 f10 f14 s A hA h
theorem step8_c (A : S512x1024.Idx → EReal) (hA : ∀ y, (y 0).val < 512 → M18.view.read (Elt Ideal) s.2.2.2.2.2 y = A y) (h : ∀ y, (y 0).val < 384 → M13.view.read (Elt Ideal) s.2.1 y = Gc (M9.view.read (Elt Ideal) f9) (M10.view.read (Elt Ideal) f10) A (M16.view.read (Elt Ideal) s.2.2.2.1) y) :
    ∀ y, (y 0).val < 512 → M13.view.read (Elt Ideal) (step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 y = Gc (M9.view.read (Elt Ideal) f9) (M10.view.read (Elt Ideal) f10) A (M16.view.read (Elt Ideal) s.2.2.2.1) y :=
  region8_c c i M1 h1 M2 h2 M3 h3 M4 h4 M5 h5 M6 h6 M7 h7 M8 h8 M9 h9 M10 h10 M11 h11 M12 h12 M13 h13 M14 h14 M15 h15 M16 h16 M17 h17 M18 h18  ⟨0, by rw [trips8]; exact Nat.one_pos⟩ f3 f4 f7 f8 f9 f10 f14 s A hA h
theorem step8_buf (H : ℕ → ℕ → EReal) (h : ∀ y, 0 ≤ (y 0).val ∧ (y 0).val < 288 → M17.view.read (Elt Ideal) s.2.2.2.2.1 y = Gbuf H (M15.view.read (Elt Ideal) s.2.2.1) y) :
    ∀ y, 0 ≤ (y 0).val ∧ (y 0).val < 544 → M17.view.read (Elt Ideal) (step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 y = Gbuf H (M15.view.read (Elt Ideal) s.2.2.1) y :=
  region8_buf c i M1 h1 M2 h2 M3 h3 M4 h4 M5 h5 M6 h6 M7 h7 M8 h8 M9 h9 M10 h10 M11 h11 M12 h12 M13 h13 M14 h14 M15 h15 M16 h16 M17 h17 M18 h18  ⟨0, by rw [trips8]; exact Nat.one_pos⟩ f3 f4 f7 f8 f9 f10 f14 s H h
theorem step7_buf : ∀ y, 0 ≤ (y 0).val ∧ (y 0).val < 288 → M17.view.read (Elt Ideal) (step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 y = Gbuf (at2 (k0_pay1719 (F := Ideal) (BitVec.ofNat 32 (i 0).val) (blk (M17.view.read (Elt Ideal) s.2.2.2.2.1) 512 0 32 1024 (inb2 (by omega) le_rfl)))) (M15.view.read (Elt Ideal) s.2.2.1) y :=
  region7_buf c i M1 h1 M2 h2 M3 h3 M4 h4 M5 h5 M6 h6 M7 h7 M8 h8 M9 h9 M10 h10 M11 h11 M12 h12 M13 h13 M14 h14 M15 h15 M16 h16 M17 h17 M18 h18 (BitVec.ofNat 32 (i 0).val) ⟨0, by rw [trips7]; exact Nat.one_pos⟩ f3 f4 f7 f8 f9 f10 f14 s
theorem step8_z (y : S512x1024.Idx) : M16.view.read (Elt Ideal) (step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 y = Gz (M4.view.read (Elt Ideal) f4) (M14.view.read (Elt Ideal) f14) y :=
  region8_z c i M1 h1 M2 h2 M3 h3 M4 h4 M5 h5 M6 h6 M7 h7 M8 h8 M9 h9 M10 h10 M11 h11 M12 h12 M13 h13 M14 h14 M15 h15 M16 h16 M17 h17 M18 h18 ⟨0, by rw [trips8]; exact Nat.one_pos⟩ f3 f4 f7 f8 f9 f10 f14 s y
theorem steps_proj : M11.view.read (Elt Ideal) (steps (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).1 = Gproj (M3.view.read (Elt Ideal) f3) (M14.view.read (Elt Ideal) f14) := by
  obtain ⟨S1, hS1⟩ : ∃ x, x = step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s := ⟨_, rfl⟩
  have p1 := step1_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s (fun y h => absurd h (Nat.not_lt_zero _))
  rw [← hS1] at p1
  obtain ⟨S2, hS2⟩ : ∃ x, x = step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 := ⟨_, rfl⟩
  have p2 := step2_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 p1
  rw [← hS2] at p2
  obtain ⟨S3, hS3⟩ : ∃ x, x = step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 := ⟨_, rfl⟩
  have e11_3 : S3.1 = S2.1 := by rw [hS3, step3_same_proj]
  rw [← e11_3] at p2
  obtain ⟨S4, hS4⟩ : ∃ x, x = step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 := ⟨_, rfl⟩
  have e11_4 : S4.1 = S3.1 := by rw [hS4, step4_same_proj]
  rw [← e11_4] at p2
  obtain ⟨S5, hS5⟩ : ∃ x, x = step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 := ⟨_, rfl⟩
  have p5 := step5_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 p2
  rw [← hS5] at p5
  obtain ⟨S6, hS6⟩ : ∃ x, x = step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 := ⟨_, rfl⟩
  have p6 := step6_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 p5
  rw [← hS6] at p6
  obtain ⟨S7, hS7⟩ : ∃ x, x = step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 := ⟨_, rfl⟩
  have p7 := step7_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 p6
  rw [← hS7] at p7
  obtain ⟨S8, hS8⟩ : ∃ x, x = step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 := ⟨_, rfl⟩
  have e11_8 : S8.1 = S7.1 := by rw [hS8, step8_same_proj]
  rw [← e11_8] at p7
  unfold steps
  rw [← hS1, ← hS2, ← hS3, ← hS4, ← hS5, ← hS6, ← hS7, ← hS8]
  exact funext fun y => p7 y (idx2_lt1 y)
theorem steps_z : M16.view.read (Elt Ideal) (steps (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.1 = Gz (M4.view.read (Elt Ideal) f4) (M14.view.read (Elt Ideal) f14) := by
  obtain ⟨S1, hS1⟩ : ∃ x, x = step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s := ⟨_, rfl⟩
  obtain ⟨S2, hS2⟩ : ∃ x, x = step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 := ⟨_, rfl⟩
  obtain ⟨S3, hS3⟩ : ∃ x, x = step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 := ⟨_, rfl⟩
  obtain ⟨S4, hS4⟩ : ∃ x, x = step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 := ⟨_, rfl⟩
  obtain ⟨S5, hS5⟩ : ∃ x, x = step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 := ⟨_, rfl⟩
  obtain ⟨S6, hS6⟩ : ∃ x, x = step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 := ⟨_, rfl⟩
  obtain ⟨S7, hS7⟩ : ∃ x, x = step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 := ⟨_, rfl⟩
  obtain ⟨S8, hS8⟩ : ∃ x, x = step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 := ⟨_, rfl⟩
  have z8 := step8_z c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7
  rw [← hS8] at z8
  unfold steps
  rw [← hS1, ← hS2, ← hS3, ← hS4, ← hS5, ← hS6, ← hS7, ← hS8]
  exact funext z8
theorem steps_buf : M17.view.read (Elt Ideal) (steps (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.2.2.2.1 = Gbuf (at2 (k0_pay1719 (F := Ideal) (BitVec.ofNat 32 (i 0).val) (blk (M17.view.read (Elt Ideal) s.2.2.2.2.1) 512 0 32 1024 (inb2 (by omega) le_rfl)))) (Gag (M4.view.read (Elt Ideal) f4) (M14.view.read (Elt Ideal) f14)) := by
  obtain ⟨S1, hS1⟩ : ∃ x, x = step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s := ⟨_, rfl⟩
  have e17_1 : S1.2.2.2.2.1 = s.2.2.2.2.1 := by rw [hS1, step1_same_buf]
  obtain ⟨S2, hS2⟩ : ∃ x, x = step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 := ⟨_, rfl⟩
  have e17_2 : S2.2.2.2.2.1 = s.2.2.2.2.1 := by rw [hS2, step2_same_buf, e17_1]
  obtain ⟨S3, hS3⟩ : ∃ x, x = step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 := ⟨_, rfl⟩
  have e17_3 : S3.2.2.2.2.1 = s.2.2.2.2.1 := by rw [hS3, step3_same_buf, e17_2]
  have g3 := step3_ag c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 (fun y h => absurd h (Nat.not_lt_zero _))
  rw [← hS3] at g3
  obtain ⟨S4, hS4⟩ : ∃ x, x = step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 := ⟨_, rfl⟩
  have e17_4 : S4.2.2.2.2.1 = s.2.2.2.2.1 := by rw [hS4, step4_same_buf, e17_3]
  have g4 := step4_ag c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 g3
  rw [← hS4] at g4
  have g : M15.view.read (Elt Ideal) S4.2.2.1 = Gag (M4.view.read (Elt Ideal) f4) (M14.view.read (Elt Ideal) f14) := funext fun y => g4 y (idx2_lt1 y)
  obtain ⟨S5, hS5⟩ : ∃ x, x = step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 := ⟨_, rfl⟩
  have e15_5 : S5.2.2.1 = S4.2.2.1 := by rw [hS5, step5_same_ag]
  have e17_5 : S5.2.2.2.2.1 = s.2.2.2.2.1 := by rw [hS5, step5_same_buf, e17_4]
  rw [← e15_5] at g
  obtain ⟨S6, hS6⟩ : ∃ x, x = step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 := ⟨_, rfl⟩
  have e15_6 : S6.2.2.1 = S5.2.2.1 := by rw [hS6, step6_same_ag]
  have e17_6 : S6.2.2.2.2.1 = s.2.2.2.2.1 := by rw [hS6, step6_same_buf, e17_5]
  rw [← e15_6] at g
  obtain ⟨S7, hS7⟩ : ∃ x, x = step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 := ⟨_, rfl⟩
  have e15_7 : S7.2.2.1 = S6.2.2.1 := by rw [hS7, step7_same_ag]
  have p7 := step7_buf c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6
  rw [← hS7] at p7
  rw [e17_6, ← e15_7] at p7
  rw [← e15_7] at g
  obtain ⟨S8, hS8⟩ : ∃ x, x = step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 := ⟨_, rfl⟩
  have e15_8 : S8.2.2.1 = S7.2.2.1 := by rw [hS8, step8_same_ag]
  have p8 := step8_buf c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 _ p7
  rw [← hS8] at p8
  rw [g] at p8
  unfold steps
  rw [← hS1, ← hS2, ← hS3, ← hS4, ← hS5, ← hS6, ← hS7, ← hS8]
  exact funext fun y => p8 y ⟨Nat.zero_le _, idx2_lt0 y⟩
theorem steps_c : M13.view.read (Elt Ideal) (steps (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s).2.1 = Gc (M9.view.read (Elt Ideal) f9) (M10.view.read (Elt Ideal) f10) (Gacc (M7.view.read (Elt Ideal) f7) (M8.view.read (Elt Ideal) f8) (M17.view.read (Elt Ideal) s.2.2.2.2.1)) (M16.view.read (Elt Ideal) s.2.2.2.1) := by
  obtain ⟨S1, hS1⟩ : ∃ x, x = step1 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s := ⟨_, rfl⟩
  have e16_1 : S1.2.2.2.1 = s.2.2.2.1 := by rw [hS1, step1_same_z]
  have e17_1 : S1.2.2.2.2.1 = s.2.2.2.2.1 := by rw [hS1, step1_same_buf]
  have a1 := step1_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 s (fun y h => absurd h (Nat.not_lt_zero _))
  rw [← hS1] at a1
  obtain ⟨S2, hS2⟩ : ∃ x, x = step2 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 := ⟨_, rfl⟩
  have e16_2 : S2.2.2.2.1 = s.2.2.2.1 := by rw [hS2, step2_same_z, e16_1]
  have e17_2 : S2.2.2.2.2.1 = s.2.2.2.2.1 := by rw [hS2, step2_same_buf, e17_1]
  have a2 := step2_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 (by rw [e17_1]; exact a1)
  rw [← hS2] at a2
  rw [e17_1] at a2
  have c2 := step2_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S1 (Gacc (M7.view.read (Elt Ideal) f7) (M8.view.read (Elt Ideal) f8) (M17.view.read (Elt Ideal) s.2.2.2.2.1)) (fun y hy => a1 y (key_lt 11 64 (by decide) y hy)) (fun y h => absurd h (Nat.not_lt_zero _))
  rw [← hS2] at c2
  rw [e16_1] at c2
  obtain ⟨S3, hS3⟩ : ∃ x, x = step3 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 := ⟨_, rfl⟩
  have e16_3 : S3.2.2.2.1 = s.2.2.2.1 := by rw [hS3, step3_same_z, e16_2]
  have e17_3 : S3.2.2.2.2.1 = s.2.2.2.2.1 := by rw [hS3, step3_same_buf, e17_2]
  have a3 := step3_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 (by rw [e17_2]; exact a2)
  rw [← hS3] at a3
  rw [e17_2] at a3
  have c3 := step3_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S2 (Gacc (M7.view.read (Elt Ideal) f7) (M8.view.read (Elt Ideal) f8) (M17.view.read (Elt Ideal) s.2.2.2.2.1)) (fun y hy => a2 y (key_lt 20 128 (by decide) y hy)) (by rw [e16_2]; exact c2)
  rw [← hS3] at c3
  rw [e16_2] at c3
  obtain ⟨S4, hS4⟩ : ∃ x, x = step4 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 := ⟨_, rfl⟩
  have e16_4 : S4.2.2.2.1 = s.2.2.2.1 := by rw [hS4, step4_same_z, e16_3]
  have e17_4 : S4.2.2.2.2.1 = s.2.2.2.2.1 := by rw [hS4, step4_same_buf, e17_3]
  have a4 := step4_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 (by rw [e17_3]; exact a3)
  rw [← hS4] at a4
  rw [e17_3] at a4
  have c4 := step4_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S3 (Gacc (M7.view.read (Elt Ideal) f7) (M8.view.read (Elt Ideal) f8) (M17.view.read (Elt Ideal) s.2.2.2.2.1)) (fun y hy => a3 y (key_lt 29 192 (by decide) y hy)) (by rw [e16_3]; exact c3)
  rw [← hS4] at c4
  rw [e16_3] at c4
  obtain ⟨S5, hS5⟩ : ∃ x, x = step5 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 := ⟨_, rfl⟩
  have e16_5 : S5.2.2.2.1 = s.2.2.2.1 := by rw [hS5, step5_same_z, e16_4]
  have e17_5 : S5.2.2.2.2.1 = s.2.2.2.2.1 := by rw [hS5, step5_same_buf, e17_4]
  have a5 := step5_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 (by rw [e17_4]; exact a4)
  rw [← hS5] at a5
  rw [e17_4] at a5
  have c5 := step5_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S4 (Gacc (M7.view.read (Elt Ideal) f7) (M8.view.read (Elt Ideal) f8) (M17.view.read (Elt Ideal) s.2.2.2.2.1)) (fun y hy => a4 y (key_lt 38 256 (by decide) y hy)) (by rw [e16_4]; exact c4)
  rw [← hS5] at c5
  rw [e16_4] at c5
  obtain ⟨S6, hS6⟩ : ∃ x, x = step6 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 := ⟨_, rfl⟩
  have e16_6 : S6.2.2.2.1 = s.2.2.2.1 := by rw [hS6, step6_same_z, e16_5]
  have e17_6 : S6.2.2.2.2.1 = s.2.2.2.2.1 := by rw [hS6, step6_same_buf, e17_5]
  have a6 := step6_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 (by rw [e17_5]; exact a5)
  rw [← hS6] at a6
  rw [e17_5] at a6
  have c6 := step6_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S5 (Gacc (M7.view.read (Elt Ideal) f7) (M8.view.read (Elt Ideal) f8) (M17.view.read (Elt Ideal) s.2.2.2.2.1)) (fun y hy => a5 y (key_lt 47 320 (by decide) y hy)) (by rw [e16_5]; exact c5)
  rw [← hS6] at c6
  rw [e16_5] at c6
  obtain ⟨S7, hS7⟩ : ∃ x, x = step7 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 := ⟨_, rfl⟩
  have e16_7 : S7.2.2.2.1 = s.2.2.2.1 := by rw [hS7, step7_same_z, e16_6]
  have a7 := step7_acc c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 (by rw [e17_6]; exact a6)
  rw [← hS7] at a7
  rw [e17_6] at a7
  have c7 := step7_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S6 (Gacc (M7.view.read (Elt Ideal) f7) (M8.view.read (Elt Ideal) f8) (M17.view.read (Elt Ideal) s.2.2.2.2.1)) (fun y hy => a6 y (key_lt 56 384 (by decide) y hy)) (by rw [e16_6]; exact c6)
  rw [← hS7] at c7
  rw [e16_6] at c7
  obtain ⟨S8, hS8⟩ : ∃ x, x = step8 (F := Ideal) c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 := ⟨_, rfl⟩
  have c8 := step8_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 f14 S7 (Gacc (M7.view.read (Elt Ideal) f7) (M8.view.read (Elt Ideal) f8) (M17.view.read (Elt Ideal) s.2.2.2.2.1)) (fun y hy => a7 y (key_lt 64 512 (by decide) y hy)) (by rw [e16_7]; exact c7)
  rw [← hS8] at c8
  rw [e16_7] at c8
  unfold steps
  rw [← hS1, ← hS2, ← hS3, ← hS4, ← hS5, ← hS6, ← hS7, ← hS8]
  exact funext fun y => c8 y (idx2_lt0 y)

/-! ## The stretch before them -/

theorem pre_u : M14.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 = (Gu (M1.view.read (Elt Ideal) f1) (M2.view.read (Elt Ideal) f2)) := by
  unfold pre
  dsimp only
  refine (read_whole M14.view _).trans ((pay_u _ _).trans ?_)
  exact congrArg₂ Gu (blk_whole _ _) (blk_whole _ _)
theorem pre_gate : M12.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.1 = Ggate (M5.view.read (Elt Ideal) f5) (M6.view.read (Elt Ideal) f6) (Gu (M1.view.read (Elt Ideal) f1) (M2.view.read (Elt Ideal) f2)) := by
  unfold pre
  dsimp only
  refine (read_whole M12.view _).trans ((pay_gate _ _ _).trans ?_)
  have hu : pre.sl.v26 (F := Ideal) c M1 M2 M14 f1 f2 = (Gu (M1.view.read (Elt Ideal) f1) (M2.view.read (Elt Ideal) f2)) := by
    refine (View.readCov_full M14.view _ _ _ _).trans ((pay_u _ _).trans ?_)
    exact congrArg₂ Gu (blk_whole _ _) (blk_whole _ _)
  rw [hu]
  exact congrArg₂ (fun w b => Ggate w b (Gu (M1.view.read (Elt Ideal) f1) (M2.view.read (Elt Ideal) f2))) (blk_whole _ _) (blk_whole _ _)
theorem first_true : ∀ i : grid0.Coords, (i 0).val = 0 →
    Scalar.cmpi CmpIPredicate.ne (Scalar.extui (Scalar.cmpi CmpIPredicate.eq (BitVec.ofNat 32 (i 0).val) 0#32)) 0#32 = 1#1 := by decide +kernel
theorem zero_bf16 : Ideal.ofBits .bf16 0#16 = 0 := by simp [Ideal.ofBits, Ideal.ieee]
theorem first_false : ∀ i : grid0.Coords, (i 0).val ≠ 0 →
    ¬ Scalar.cmpi CmpIPredicate.ne (Scalar.extui (Scalar.cmpi CmpIPredicate.eq (BitVec.ofNat 32 (i 0).val) 0#32)) 0#32 = 1#1 := by decide +kernel
theorem pre_z (hi : (i 0).val ≠ 0) : (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1 = s.2.2.2.1 := by
  unfold pre
  exact dif_neg (first_false i hi)
theorem pre_buf (hi : (i 0).val ≠ 0) : (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2 = s.2.2.2.2.1 := by
  unfold pre
  exact dif_neg (first_false i hi)
theorem pre_z0 (hi : (i 0).val = 0) : M16.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1 = fun _ => (0 : EReal) := by
  unfold pre
  dsimp only
  rw [dif_pos (first_true i hi)]
  refine (read_whole M16.view _).trans ?_
  unfold k0_pay1897
  dsimp only
  rw [shapeCast_self]
  exact funext fun _ => zero_bf16
theorem pre_buf0 (hi : (i 0).val = 0) : M17.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2 = fun _ => (0 : EReal) := by
  unfold pre
  dsimp only
  rw [dif_pos (first_true i hi)]
  refine (read_whole M17.view _).trans ?_
  unfold k0_pay1898
  dsimp only
  rw [shapeCast_self]
  exact funext fun _ => Ideal.ofBits_zero_f32

/-! ## The whole body -/

theorem fin_gate : M12.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1 = Ggate (M5.view.read (Elt Ideal) f5) (M6.view.read (Elt Ideal) f6) (Gu (M1.view.read (Elt Ideal) f1) (M2.view.read (Elt Ideal) f2)) := by
  unfold fin
  dsimp only
  exact pre_gate c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s
theorem fin_proj : M11.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.1 = Gproj (M3.view.read (Elt Ideal) f3) (Gu (M1.view.read (Elt Ideal) f1) (M2.view.read (Elt Ideal) f2)) := by
  unfold fin
  dsimp only
  exact (steps_proj c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 (s.1, s.2.1, s.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2, s.2.2.2.2.2)).trans (congrArg (Gproj _) (pre_u c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s))
theorem fin_z : M16.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.2.2.1 = Gz (M4.view.read (Elt Ideal) f4) (Gu (M1.view.read (Elt Ideal) f1) (M2.view.read (Elt Ideal) f2)) := by
  unfold fin
  dsimp only
  exact (steps_z c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 (s.1, s.2.1, s.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2, s.2.2.2.2.2)).trans (congrArg (Gz _) (pre_u c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s))
theorem fin_buf : M17.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.2.2.2.1 = Gbuf (at2 (k0_pay1719 (F := Ideal) (BitVec.ofNat 32 (i 0).val) (blk (M17.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2) 512 0 32 1024 (inb2 (by omega) le_rfl)))) (Gag (M4.view.read (Elt Ideal) f4) (Gu (M1.view.read (Elt Ideal) f1) (M2.view.read (Elt Ideal) f2))) := by
  unfold fin
  dsimp only
  exact (steps_buf c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 (s.1, s.2.1, s.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2, s.2.2.2.2.2)).trans (congrArg (fun u => Gbuf (at2 (k0_pay1719 (F := Ideal) (BitVec.ofNat 32 (i 0).val) (blk (M17.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2) 512 0 32 1024 (inb2 (by omega) le_rfl)))) (Gag (M4.view.read (Elt Ideal) f4) u)) (pre_u c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s))
theorem fin_c0 : M13.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.1 = Gc (M9.view.read (Elt Ideal) f9) (M10.view.read (Elt Ideal) f10) (Gacc (M7.view.read (Elt Ideal) f7) (M8.view.read (Elt Ideal) f8) (M17.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2)) (M16.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1) := by
  unfold fin
  dsimp only
  exact steps_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 (s.1, s.2.1, s.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2, s.2.2.2.2.2)
theorem fin_c (hi : (i 0).val ≠ 0) : M13.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.1 = Gc (M9.view.read (Elt Ideal) f9) (M10.view.read (Elt Ideal) f10) (Gacc (M7.view.read (Elt Ideal) f7) (M8.view.read (Elt Ideal) f8) (M17.view.read (Elt Ideal) s.2.2.2.2.1)) (M16.view.read (Elt Ideal) s.2.2.2.1) := by
  unfold fin
  dsimp only
  refine (steps_c c i M1 h1 M2 h2 M3 h3 M4 h4 M5 h5 M6 h6 M7 h7 M8 h8 M9 h9 M10 h10 M11 h11 M12 h12 M13 h13 M14 h14 M15 h15 M16 h16 M17 h17 M18 h18 f3 f4 f7 f8 f9 f10 (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.1 (s.1, s.2.1, s.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1, (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2, s.2.2.2.2.2)).trans ?_
  dsimp only
  rw [pre_z c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi, pre_buf c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi]

end Cert.KernelIdeal.Value

end
-- ==== Proof.Value.Run.lean ====
/-
  The idealized kernel as a whole run, with what every point leaves: the projections, the gates and the convolution module's
  rows as functions of the blocks the point is handed, and the buffers carried from point to point.
-/
import proofs.«01_k».proof.Proof.KernelIdeal.Run
import proofs.«01_k».proof.Proof.Value.Step

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section Point

variable (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
  (f1 : Bf (F := Ideal) c M1) (f2 : Bf (F := Ideal) c M2) (f5 : Bf (F := Ideal) c M5) (f6 : Bf (F := Ideal) c M6) (f12 : Bf (F := Ideal) c M12) (f3 : Bf (F := Ideal) c M3) (f4 : Bf (F := Ideal) c M4) (f7 : Bf (F := Ideal) c M7) (f8 : Bf (F := Ideal) c M8) (f9 : Bf (F := Ideal) c M9) (f10 : Bf (F := Ideal) c M10) (f14 : Bf (F := Ideal) c M14)
  (s : St (F := Ideal) c M11 M13 M15 M16 M17 M18)

/-- The carried buffer as the point's work finds it, zeroed at the first point. -/
theorem entry_buf {n : ℕ} (hn : (i 0).val = n) {B : S544x1024.Idx → EReal} (h0 : n = 0 → B = fun _ => 0) (h : n ≠ 0 → M17.view.read (Elt Ideal) s.2.2.2.2.1 = B) :
    M17.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.2 = B := by
  by_cases hi : (i 0).val = 0
  · rw [h0 (hn ▸ hi)]; exact pre_buf0 c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi
  · rw [pre_buf c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi]; exact h (hn ▸ hi)

theorem entry_z {n : ℕ} (hn : (i 0).val = n) {Z : S512x1024.Idx → EReal} (h0 : n = 0 → Z = fun _ => 0) (h : n ≠ 0 → M16.view.read (Elt Ideal) s.2.2.2.1 = Z) :
    M16.view.read (Elt Ideal) (pre (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1.2.2.1 = Z := by
  by_cases hi : (i 0).val = 0
  · rw [h0 (hn ▸ hi)]; exact pre_z0 c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi
  · rw [pre_z c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hi]; exact h (hn ▸ hi)

/-- The buffer the next point finds: the tail of this one's kept as history, and this tile's gated rows. -/
def nextBuf (n : ℕ) (B : S544x1024.Idx → EReal) (Wc : S3072x1024.Idx → EReal) (U : S512x1024.Idx → EReal) : S544x1024.Idx → EReal :=
  Gbuf (at2 (k0_pay1719 (F := Ideal) (BitVec.ofNat 32 n) (blk B 512 0 32 1024 (inb2 (by omega) le_rfl)))) (Gag Wc U)

theorem leaves_gate {X1 : S512x1024.Idx → EReal} {X2 : S1x1024.Idx → EReal} {X5 : S8x1024.Idx → EReal} {X6 : S8x1.Idx → EReal}
    (e1 : M1.view.read (Elt Ideal) f1 = X1) (e2 : M2.view.read (Elt Ideal) f2 = X2) (e5 : M5.view.read (Elt Ideal) f5 = X5) (e6 : M6.view.read (Elt Ideal) f6 = X6) :
    M12.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).1 = Ggate X5 X6 (Gu X1 X2) := by
  rw [fin_gate, e1, e2, e5, e6]

theorem leaves_proj {X1 : S512x1024.Idx → EReal} {X2 : S1x1024.Idx → EReal} {X3 : S5120x1024.Idx → EReal}
    (e1 : M1.view.read (Elt Ideal) f1 = X1) (e2 : M2.view.read (Elt Ideal) f2 = X2) (e3 : M3.view.read (Elt Ideal) f3 = X3) :
    M11.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.1 = Gproj X3 (Gu X1 X2) := by
  rw [fin_proj, e1, e2, e3]

theorem leaves_z {X1 : S512x1024.Idx → EReal} {X2 : S1x1024.Idx → EReal} {X4 : S3072x1024.Idx → EReal}
    (e1 : M1.view.read (Elt Ideal) f1 = X1) (e2 : M2.view.read (Elt Ideal) f2 = X2) (e4 : M4.view.read (Elt Ideal) f4 = X4) :
    M16.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.2.2.1 = Gz X4 (Gu X1 X2) := by
  rw [fin_z, e1, e2, e4]

theorem leaves_buf {n : ℕ} (hn : (i 0).val = n) {B : S544x1024.Idx → EReal} (h0 : n = 0 → B = fun _ => 0) (h : n ≠ 0 → M17.view.read (Elt Ideal) s.2.2.2.2.1 = B)
    {X1 : S512x1024.Idx → EReal} {X2 : S1x1024.Idx → EReal} {X4 : S3072x1024.Idx → EReal}
    (e1 : M1.view.read (Elt Ideal) f1 = X1) (e2 : M2.view.read (Elt Ideal) f2 = X2) (e4 : M4.view.read (Elt Ideal) f4 = X4) :
    M17.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.2.2.2.1 = nextBuf n B X4 (Gu X1 X2) := by
  rw [fin_buf, entry_buf c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hn h0 h, e1, e2, e4, hn]
  rfl

theorem leaves_c {n : ℕ} (hn : (i 0).val = n) {B : S544x1024.Idx → EReal} (h0 : n = 0 → B = fun _ => 0) (h : n ≠ 0 → M17.view.read (Elt Ideal) s.2.2.2.2.1 = B)
    {Z : S512x1024.Idx → EReal} (hz0 : n = 0 → Z = fun _ => 0) (hz : n ≠ 0 → M16.view.read (Elt Ideal) s.2.2.2.1 = Z)
    {X7 : S31x1024.Idx → EReal} {X8 X9 X10 : S1x1024.Idx → EReal}
    (e7 : M7.view.read (Elt Ideal) f7 = X7) (e8 : M8.view.read (Elt Ideal) f8 = X8) (e9 : M9.view.read (Elt Ideal) f9 = X9) (e10 : M10.view.read (Elt Ideal) f10 = X10) :
    M13.view.read (Elt Ideal) (fin (F := Ideal) c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s).2.2.2.1 = Gc X9 X10 (Gacc X7 X8 B) Z := by
  rw [fin_c0, entry_buf c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hn h0 h, entry_z c i M1 h1 M2 h2 M3 h3 M4 h4 M5 h5 M6 h6 M7 h7 M8 h8 M9 h9 M10 h10 M11 h11 M12 h12 M13 h13 M14 h14 M15 h15 M16 h16 M17 h17 M18 h18 f1 f2 f5 f6 f12 f3 f4 f7 f8 f9 f10 f14 s hn hz0 hz, e7, e8, e9, e10]

end Point

theorem pt_owns_eq (c : Dev nD) {sp : Space} {S : Shape} {e : EltTy} (M : Memref sig .tc sp S e) (h : M.IsWhole) {f : Bf (F := Ideal) c M}
    {X : S.Idx → Elt Ideal e} (hX : M.view.read (Elt Ideal) f = X) :
    pt c M f ⊢ (owns (c : Thread nD τ) M fullShare X : sProp 𝕄) := hX ▸ pt_owns (F := Ideal) c M h f

theorem read_back {sp : Space} {S : Shape} {e : EltTy} (M : Memref sig .tc sp S e) (h : M.IsWhole) (X : S.Idx → Elt Ideal e) :
    M.view.read (Elt Ideal) (h.unread X) = X := h.read_unread X

/-- The scratch between points: the two carried buffers named from the second point on. -/
def Scr (c : Dev nD) (M14 : Memref sig .tc .vmem S512x1024 .bf16) (M15 : Memref sig .tc .vmem S512x2048 .bf16) (M16 : Memref sig .tc .vmem S512x1024 .bf16)
    (M17 : Memref sig .tc .vmem S544x1024 .f32) (M18 : Memref sig .tc .vmem S512x1024 .f32) (n : ℕ) (Z : S512x1024.Idx → EReal) (B : S544x1024.Idx → EReal) : sProp 𝕄 :=
  iprop((∃ f, pt (F := Ideal) c M14 f) ∗ (∃ f, pt (F := Ideal) c M15 f) ∗ (∃ f, ⌜n ≠ 0 → M16.view.read (Elt Ideal) f = Z⌝ ∗ pt (F := Ideal) c M16 f)
      ∗ (∃ f, ⌜n ≠ 0 → M17.view.read (Elt Ideal) f = B⌝ ∗ pt (F := Ideal) c M17 f) ∗ (∃ f, pt (F := Ideal) c M18 f))

set_option maxHeartbeats 1000000 in
theorem point_run (c : Dev nD) (i : grid0.Coords) (M1 : Memref sig .tc .vmem S512x1024 .f32) (h1 : M1.IsWhole) (M2 : Memref sig .tc .vmem S1x1024 .f32) (h2 : M2.IsWhole) (M3 : Memref sig .tc .vmem S5120x1024 .f32) (h3 : M3.IsWhole) (M4 : Memref sig .tc .vmem S3072x1024 .f32) (h4 : M4.IsWhole) (M5 : Memref sig .tc .vmem S8x1024 .f32) (h5 : M5.IsWhole) (M6 : Memref sig .tc .vmem S8x1 .f32) (h6 : M6.IsWhole) (M7 : Memref sig .tc .vmem S31x1024 .f32) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S512x5120 .bf16) (h11 : M11.IsWhole) (M12 : Memref sig .tc .vmem S8x512 .f32) (h12 : M12.IsWhole) (M13 : Memref sig .tc .vmem S512x1024 .bf16) (h13 : M13.IsWhole) (M14 : Memref sig .tc .vmem S512x1024 .bf16) (h14 : M14.IsWhole) (M15 : Memref sig .tc .vmem S512x2048 .bf16) (h15 : M15.IsWhole) (M16 : Memref sig .tc .vmem S512x1024 .bf16) (h16 : M16.IsWhole) (M17 : Memref sig .tc .vmem S544x1024 .f32) (h17 : M17.IsWhole) (M18 : Memref sig .tc .vmem S512x1024 .f32) (h18 : M18.IsWhole)
    (X1 : S512x1024.Idx → EReal) (X2 : S1x1024.Idx → EReal) (X3 : S5120x1024.Idx → EReal) (X4 : S3072x1024.Idx → EReal) (X5 : S8x1024.Idx → EReal) (X6 : S8x1.Idx → EReal) (X7 : S31x1024.Idx → EReal) (X8 : S1x1024.Idx → EReal) (X9 : S1x1024.Idx → EReal) (X10 : S1x1024.Idx → EReal) (Y11 : S512x5120.Idx → EReal) (Y12 : S8x512.Idx → EReal) (Y13 : S512x1024.Idx → EReal)
    (n : ℕ) (hn : (i 0).val = n) (Z : S512x1024.Idx → EReal) (hZ : n = 0 → Z = fun _ => 0) (B : S544x1024.Idx → EReal) (hB : n = 0 → B = fun _ => 0)
    (Q : PUnit → sProp 𝕄) :
    iprop((Scr c M14 M15 M16 M17 M18 n Z B ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare Y11 ∗ owns (c : Thread nD τ) M12 fullShare Y12 ∗ owns (c : Thread nD τ) M13 fullShare Y13)
        ∗ ((Scr c M14 M15 M16 M17 M18 (n + 1) (Gz X4 (Gu X1 X2)) (nextBuf n B X4 (Gu X1 X2)) ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare (Gproj X3 (Gu X1 X2)) ∗ owns (c : Thread nD τ) M12 fullShare (Ggate X5 X6 (Gu X1 X2)) ∗ owns (c : Thread nD τ) M13 fullShare (Gc X9 X10 (Gacc X7 X8 B) Z)) -∗ Q ⟨⟩))
      ⊢ wp frame (wpE (defs₀ (F := Ideal)) Variants.none (c : Thread nD τ) none) Set.univ (cc0_proj_conv (F := Ideal) i M1 h1 M2 h2 M3 h3 M4 h4 M5 h5 M6 h6 M7 h7 M8 h8 M9 h9 M10 h10 M11 h11 M12 h12 M13 h13 M14 h14 M15 h15 M16 h16 M17 h17 M18 h18) Q := by
  unfold Scr
  iintro ⟨⟨⟨⟨%f14, H14⟩, ⟨%f15, H15⟩, ⟨%f16, %hz, H16⟩, ⟨%f17, %hb, H17⟩, ⟨%f18, H18⟩⟩, H1, H2, H3, H4, H5, H6, H7, H8, H9, H10, H11, H12, H13⟩, HQ⟩
  iapply (body_run (F := Ideal) c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) Set.univ _)
  isplitl [H1 H2 H3 H4 H5 H6 H7 H8 H9 H10 H11 H12 H13 H14 H15 H16 H17 H18]
  · isplitl [H3 H4 H7 H8 H9 H10 H11 H13 H14 H15 H16 H17 H18]
    · isplitl [H3]; · iapply (owns_pt (F := Ideal) c M3 h3 _); iexact H3
      isplitl [H4]; · iapply (owns_pt (F := Ideal) c M4 h4 _); iexact H4
      isplitl [H7]; · iapply (owns_pt (F := Ideal) c M7 h7 _); iexact H7
      isplitl [H8]; · iapply (owns_pt (F := Ideal) c M8 h8 _); iexact H8
      isplitl [H9]; · iapply (owns_pt (F := Ideal) c M9 h9 _); iexact H9
      isplitl [H10]; · iapply (owns_pt (F := Ideal) c M10 h10 _); iexact H10
      isplitl [H11]; · iapply (owns_pt (F := Ideal) c M11 h11 _); iexact H11
      isplitl [H13]; · iapply (owns_pt (F := Ideal) c M13 h13 _); iexact H13
      isplitl [H14]; · iexact H14
      isplitl [H15]; · iexact H15
      isplitl [H16]; · iexact H16
      isplitl [H17]; · iexact H17
      iexact H18
    isplitl [H1]; · iapply (owns_pt (F := Ideal) c M1 h1 _); iexact H1
    isplitl [H2]; · iapply (owns_pt (F := Ideal) c M2 h2 _); iexact H2
    isplitl [H5]; · iapply (owns_pt (F := Ideal) c M5 h5 _); iexact H5
    isplitl [H6]; · iapply (owns_pt (F := Ideal) c M6 h6 _); iexact H6
    iapply (owns_pt (F := Ideal) c M12 h12 _); iexact H12
  iintro ⟨⟨H3, H4, H7, H8, H9, H10, H11, H13, H14, H15, H16, H17, H18⟩, ⟨H1, H2, H5, H6, H12⟩⟩
  iapply HQ
  isplitl [H14 H15 H16 H17 H18]
  · isplitl [H14]; · iexists _; iexact H14
    isplitl [H15]; · iexists _; iexact H15
    isplitl [H16]
    · iexists _
      isplitr
      rotate_left
      · iexact H16
      · ipureintro
        exact fun _ => leaves_z c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) (read_back M1 h1 X1) (read_back M2 h2 X2) (read_back M4 h4 X4)
    isplitl [H17]
    · iexists _
      isplitr
      rotate_left
      · iexact H17
      · ipureintro
        exact fun _ => leaves_buf c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) hn hB hb (read_back M1 h1 X1) (read_back M2 h2 X2) (read_back M4 h4 X4)
    iexists _; iexact H18
  isplitl [H1]; · iapply (pt_owns_eq c M1 h1 (read_back M1 h1 X1)); iexact H1
  isplitl [H2]; · iapply (pt_owns_eq c M2 h2 (read_back M2 h2 X2)); iexact H2
  isplitl [H3]; · iapply (pt_owns_eq c M3 h3 (read_back M3 h3 X3)); iexact H3
  isplitl [H4]; · iapply (pt_owns_eq c M4 h4 (read_back M4 h4 X4)); iexact H4
  isplitl [H5]; · iapply (pt_owns_eq c M5 h5 (read_back M5 h5 X5)); iexact H5
  isplitl [H6]; · iapply (pt_owns_eq c M6 h6 (read_back M6 h6 X6)); iexact H6
  isplitl [H7]; · iapply (pt_owns_eq c M7 h7 (read_back M7 h7 X7)); iexact H7
  isplitl [H8]; · iapply (pt_owns_eq c M8 h8 (read_back M8 h8 X8)); iexact H8
  isplitl [H9]; · iapply (pt_owns_eq c M9 h9 (read_back M9 h9 X9)); iexact H9
  isplitl [H10]; · iapply (pt_owns_eq c M10 h10 (read_back M10 h10 X10)); iexact H10
  isplitl [H11]; · iapply (pt_owns_eq c M11 h11 (leaves_proj c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) (read_back M1 h1 X1) (read_back M2 h2 X2) (read_back M3 h3 X3))); iexact H11
  isplitl [H12]; · iapply (pt_owns_eq c M12 h12 (leaves_gate c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) (read_back M1 h1 X1) (read_back M2 h2 X2) (read_back M5 h5 X5) (read_back M6 h6 X6))); iexact H12
  iapply (pt_owns_eq c M13 h13 (leaves_c c i M1 h1 M2 h2 M3 h3 M4 h4 M5 h5 M6 h6 M7 h7 M8 h8 M9 h9 M10 h10 M11 h11 M12 h12 M13 h13 M14 h14 M15 h15 M16 h16 M17 h17 M18 h18 (h1.unread X1) (h2.unread X2) (h5.unread X5) (h6.unread X6) (h12.unread Y12) (h3.unread X3) (h4.unread X4) (h7.unread X7) (h8.unread X8) (h9.unread X9) (h10.unread X10) f14 ((h11.unread Y11), (h13.unread Y13), f15, f16, f17, f18) hn hB hb hZ hz (read_back M7 h7 X7) (read_back M8 h8 X8) (read_back M9 h9 X9) (read_back M10 h10 X10))); iexact H13

variable (m : (ℓ : Loc nD τ sig) → Buf (Elt Ideal) ℓ) (ρ : Dev nD → PrngReg)

/-! The blocks a point is handed. -/
def bX (c : Dev nD) (t : Fin cfg0.N) : S512x1024.Idx → EReal := iblk m c 0 t
def bG (c : Dev nD) (t : Fin cfg0.N) : S1x1024.Idx → EReal := iblk m c 1 t
def bWm (c : Dev nD) (t : Fin cfg0.N) : S5120x1024.Idx → EReal := iblk m c 2 t
def bWc (c : Dev nD) (t : Fin cfg0.N) : S3072x1024.Idx → EReal := iblk m c 3 t
def bWg (c : Dev nD) (t : Fin cfg0.N) : S8x1024.Idx → EReal := iblk m c 4 t
def bBg (c : Dev nD) (t : Fin cfg0.N) : S8x1.Idx → EReal := iblk m c 5 t
def bCw (c : Dev nD) (t : Fin cfg0.N) : S31x1024.Idx → EReal := iblk m c 6 t
def bCb (c : Dev nD) (t : Fin cfg0.N) : S1x1024.Idx → EReal := iblk m c 7 t
def bLg (c : Dev nD) (t : Fin cfg0.N) : S1x1024.Idx → EReal := iblk m c 8 t
def bLb (c : Dev nD) (t : Fin cfg0.N) : S1x1024.Idx → EReal := iblk m c 9 t

/-- The normed activations of point `t`. -/
def uAt (c : Dev nD) (t : Fin cfg0.N) : S512x1024.Idx → EReal := Gu (bX m c t) (bG m c t)

/-- The carried buffer before point `n`. -/
def bufN (c : Dev nD) : ℕ → S544x1024.Idx → EReal
  | 0 => fun _ => 0
  | n + 1 => if h : n < cfg0.N then nextBuf n (bufN c n) (bWc m c ⟨n, h⟩) (uAt m c ⟨n, h⟩) else fun _ => 0
/-- The carried gate path before point `n`. -/
def zN (c : Dev nD) : ℕ → S512x1024.Idx → EReal
  | 0 => fun _ => 0
  | n + 1 => if h : n < cfg0.N then Gz (bWc m c ⟨n, h⟩) (uAt m c ⟨n, h⟩) else fun _ => 0

theorem bufN_succ (c : Dev nD) (t : Fin cfg0.N) : bufN m c (t.val + 1) = nextBuf t.val (bufN m c t.val) (bWc m c t) (uAt m c t) := by
  rw [bufN, dif_pos t.isLt]
theorem zN_succ (c : Dev nD) (t : Fin cfg0.N) : zN m c (t.val + 1) = Gz (bWc m c t) (uAt m c t) := by
  rw [zN, dif_pos t.isLt]
theorem bufN_zero (c : Dev nD) {n : ℕ} (h : n = 0) : bufN m c n = fun _ => 0 := by subst h; rfl
theorem zN_zero (c : Dev nD) {n : ℕ} (h : n = 0) : zN m c n = fun _ => 0 := by subst h; rfl

/-- Point `t`'s coordinate is `t`. -/
theorem coord (t : Fin cfg0.N) : (grid0.coords t 0).val = t.val := by
  rw [Pipeline.Grid.coords_val (G := grid0) t 0 (S := 1) (B := 33) (by decide) (by decide)]
  have : t.val < 33 := t.isLt
  omega

/-- What the run keeps between points: the scratch, the two carried buffers named from the second point on. -/
def carried (c : Dev nD) (n : ℕ) (_ : n ≤ cfg0.N) : sProp 𝕄 :=
  iprop(Scr c (Memref.whole cc0_scratch0) (Memref.whole cc0_scratch1) (Memref.whole cc0_scratch2) (Memref.whole cc0_scratch3) (Memref.whole cc0_scratch4) n (zN m c n) (bufN m c n) ∗ ∃ r, prngReg c r)

/-- The proof data: what each point leaves in each window. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Gproj (bWm m c t) (uAt m c t)
    | ⟨11, _⟩ => Ggate (bWg m c t) (bBg m c t) (uAt m c t)
    | ⟨12, _⟩ => Gc (bLg m c t) (bLb m c t) (Gacc (bCw m c t) (bCb m c t) (bufN m c t.val)) (zN m c t.val)
    | ⟨n + 13, h⟩ => absurd h (Nat.not_lt.mpr (Nat.le_add_left 13 n))
  Φ t := carried m c t.val (Nat.le_of_lt_succ t.isLt)
  q w := Pipeline.shareOf spec0 w
  owed _ := 0

theorem at_start (c : Dev nD) (t : Fin cfg0.N) : (dats m 0 c).Φ t.castSucc = carried m c t.val (Nat.le_of_lt t.isLt) := by
  dsimp only [dats]; exact Pipeline.Dat.Φ_castSucc (carried m c) t
theorem at_end (c : Dev nD) (t : Fin cfg0.N) : (dats m 0 c).Φ t.succ = carried m c (t.val + 1) t.isLt := rfl

/-- What the body of point `t` is handed and what it hands back. -/
def exPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)))
def exPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t))

theorem found_0 (c : Dev nD) (t : Fin cfg0.N) (d) : owns (c : Thread nD τ) (win0_0.stage (cfg0.slots t 0)) fullShare ((dats m 0 c).before 0 t d) ⊢ (owns (c : Thread nD τ) (win0_0.stage (cfg0.slots t 0)) fullShare (bX m c t) : sProp 𝕄) := by
  rw [before0_0_of m (dats m 0 c) rfl (fun _ => rfl) t d]; exact .rfl
theorem found_1 (c : Dev nD) (t : Fin cfg0.N) (d) : owns (c : Thread nD τ) (win0_1.stage (cfg0.slots t 1)) fullShare ((dats m 0 c).before 1 t d) ⊢ (owns (c : Thread nD τ) (win0_1.stage (cfg0.slots t 1)) fullShare (bG m c t) : sProp 𝕄) := by
  rw [before0_1_of m (dats m 0 c) rfl (fun _ => rfl) t d]; exact .rfl
theorem found_2 (c : Dev nD) (t : Fin cfg0.N) (d) : owns (c : Thread nD τ) (win0_2.stage (cfg0.slots t 2)) fullShare ((dats m 0 c).before 2 t d) ⊢ (owns (c : Thread nD τ) (win0_2.stage (cfg0.slots t 2)) fullShare (bWm m c t) : sProp 𝕄) := by
  rw [before0_2_of m (dats m 0 c) rfl (fun _ => rfl) t d]; exact .rfl
theorem found_3 (c : Dev nD) (t : Fin cfg0.N) (d) : owns (c : Thread nD τ) (win0_3.stage (cfg0.slots t 3)) fullShare ((dats m 0 c).before 3 t d) ⊢ (owns (c : Thread nD τ) (win0_3.stage (cfg0.slots t 3)) fullShare (bWc m c t) : sProp 𝕄) := by
  rw [before0_3_of m (dats m 0 c) rfl (fun _ => rfl) t d]; exact .rfl
theorem found_4 (c : Dev nD) (t : Fin cfg0.N) (d) : owns (c : Thread nD τ) (win0_4.stage (cfg0.slots t 4)) fullShare ((dats m 0 c).before 4 t d) ⊢ (owns (c : Thread nD τ) (win0_4.stage (cfg0.slots t 4)) fullShare (bWg m c t) : sProp 𝕄) := by
  rw [before0_4_of m (dats m 0 c) rfl (fun _ => rfl) t d]; exact .rfl
theorem found_5 (c : Dev nD) (t : Fin cfg0.N) (d) : owns (c : Thread nD τ) (win0_5.stage (cfg0.slots t 5)) fullShare ((dats m 0 c).before 5 t d) ⊢ (owns (c : Thread nD τ) (win0_5.stage (cfg0.slots t 5)) fullShare (bBg m c t) : sProp 𝕄) := by
  rw [before0_5_of m (dats m 0 c) rfl (fun _ => rfl) t d]; exact .rfl
theorem found_6 (c : Dev nD) (t : Fin cfg0.N) (d) : owns (c : Thread nD τ) (win0_6.stage (cfg0.slots t 6)) fullShare ((dats m 0 c).before 6 t d) ⊢ (owns (c : Thread nD τ) (win0_6.stage (cfg0.slots t 6)) fullShare (bCw m c t) : sProp 𝕄) := by
  rw [before0_6_of m (dats m 0 c) rfl (fun _ => rfl) t d]; exact .rfl
theorem found_7 (c : Dev nD) (t : Fin cfg0.N) (d) : owns (c : Thread nD τ) (win0_7.stage (cfg0.slots t 7)) fullShare ((dats m 0 c).before 7 t d) ⊢ (owns (c : Thread nD τ) (win0_7.stage (cfg0.slots t 7)) fullShare (bCb m c t) : sProp 𝕄) := by
  rw [before0_7_of m (dats m 0 c) rfl (fun _ => rfl) t d]; exact .rfl
theorem found_8 (c : Dev nD) (t : Fin cfg0.N) (d) : owns (c : Thread nD τ) (win0_8.stage (cfg0.slots t 8)) fullShare ((dats m 0 c).before 8 t d) ⊢ (owns (c : Thread nD τ) (win0_8.stage (cfg0.slots t 8)) fullShare (bLg m c t) : sProp 𝕄) := by
  rw [before0_8_of m (dats m 0 c) rfl (fun _ => rfl) t d]; exact .rfl
theorem found_9 (c : Dev nD) (t : Fin cfg0.N) (d) : owns (c : Thread nD τ) (win0_9.stage (cfg0.slots t 9)) fullShare ((dats m 0 c).before 9 t d) ⊢ (owns (c : Thread nD τ) (win0_9.stage (cfg0.slots t 9)) fullShare (bLb m c t) : sProp 𝕄) := by
  rw [before0_9_of m (dats m 0 c) rfl (fun _ => rfl) t d]; exact .rfl

theorem ex_body (c : Dev nD) (t : Fin cfg0.N) :
    exPre m c t ⊢ wp frame (wpE (defs₀ (F := Ideal)) Variants.none (c : Thread nD τ) none) Set.univ (bodyAt0 t) (fun _ => exPost m c t) := by
  unfold exPre exPost bodyAt0
  rw [at_start, at_end, show (dats m 0 c).owesAt () t.succ = (dats m 0 c).owesAt () t.castSucc from rfl]
  unfold carried
  rw [zN_succ, bufN_succ]
  iintro ⟨⟨HS, Hg⟩, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (point_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (bX m c t) (bG m c t) (bWm m c t) (bWc m c t) (bWg m c t) (bBg m c t) (bCw m c t) (bCb m c t) (bLg m c t) (bLb m c t) ((dats m 0 c).before 10 t d11) ((dats m 0 c).before 11 t d12) ((dats m 0 c).before 12 t d13) t.val (coord t) (zN m c t.val) (zN_zero m c) (bufN m c t.val) (bufN_zero m c) _)
  isplitl [HS H1 H2 H3 H4 H5 H6 H7 H8 H9 H10 H11 H12 H13]
  · isplitl [HS]; · iexact HS
    isplitl [H1]; · iapply (found_0 m c t d1); iexact H1
    isplitl [H2]; · iapply (found_1 m c t d2); iexact H2
    isplitl [H3]; · iapply (found_2 m c t d3); iexact H3
    isplitl [H4]; · iapply (found_3 m c t d4); iexact H4
    isplitl [H5]; · iapply (found_4 m c t d5); iexact H5
    isplitl [H6]; · iapply (found_5 m c t d6); iexact H6
    isplitl [H7]; · iapply (found_6 m c t d7); iexact H7
    isplitl [H8]; · iapply (found_7 m c t d8); iexact H8
    isplitl [H9]; · iapply (found_8 m c t d9); iexact H9
    isplitl [H10]; · iapply (found_9 m c t d10); iexact H10
    isplitl [H11]; · iexact H11
    isplitl [H12]; · iexact H12
    iexact H13
  iintro ⟨HS, H1, H2, H3, H4, H5, H6, H7, H8, H9, H10, H11, H12, H13⟩
  isplitl [Hg HS]
  · isplitl [HS]; · iexact HS
    iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem ex_obligation (c : Dev nD) :
    BodyObligation (dats m 0 c) (defs₀ (F := Ideal)) Variants.none () Set.univ := fun t => by
  rw [bigSep_W0, bigSep_W0, defs₀_row]
  exact triple_restated (ex_body m c t) rfl .rfl fun _ => .rfl

theorem carried_in (c : Dev nD) : Pipeline.ΦA spec0 c ⊢ (dats m 0 c).Φ 0 := by
  show Pipeline.ΦA spec0 c ⊢ carried m c 0 (Nat.zero_le _)
  unfold Pipeline.ΦA carried Scr
  rw [scopedRest0_eq]
  iintro ⟨⟨H14, H15, ⟨%f16, H16⟩, ⟨%f17, H17⟩, H18⟩, Hg⟩
  isplitr [Hg]
  · isplitl [H14]; · iexact H14
    isplitl [H15]; · iexact H15
    isplitl [H16]
    · iexists f16
      isplitr; · ipureintro; exact fun h => absurd rfl h
      iexact H16
    isplitl [H17]
    · iexists f17
      isplitr; · ipureintro; exact fun h => absurd rfl h
      iexact H17
    iexact H18
  iexact Hg

theorem carried_drop (c : Dev nD) (n : ℕ) (h : n ≤ cfg0.N) : carried m c n h ⊢ Pipeline.ΦA spec0 c := by
  unfold Pipeline.ΦA carried Scr
  rw [scopedRest0_eq]
  iintro ⟨⟨H14, H15, ⟨%f16, %_, H16⟩, ⟨%f17, %_, H17⟩, H18⟩, Hg⟩
  isplitr [Hg]
  · isplitl [H14]; · iexact H14
    isplitl [H15]; · iexact H15
    isplitl [H16]; · iexists f16; iexact H16
    isplitl [H17]; · iexists f17; iexact H17
    iexact H18
  iexact Hg

set_option backward.isDefEq.respectTransparency.types false in
/-- Every weakly fair execution ends, each window's array at what the points wrote back and every counter at zero. -/
theorem run_ex :
    θ_run defs (onTc (τ := τ) (main (F := Ideal))) (s₀ m ρ)
      (fun r => Pipeline.FramePost cfgs (dats m) 0 (V m) r ∧ r.2.sem = fun _ => 0) :=
  Pipeline.θ_run_frame_track_shared cfgs (dats m) (0 : Fin 1) launch₀0 defs₀ Variants.none m ρ main
    (fun c => (ex_obligation m c).loose) (fun _ _ _ => rfl) (fun _ _ => rfl) (V m) (hmain m Variants.none) (fun _ _ => rfl)
    (fun c => carried_in m c) (fun c => carried_drop m c _ (Nat.le_of_lt_succ (Fin.last cfg0.N).isLt)) _ (fun _ h => h)

end Cert.KernelIdeal.Value

end
-- ==== Proof.Value.Arr.lean ====
/-
  The idealized kernel's result arrays as functions of the arrays the region starts from: what every element of the
  projections, the gates and the convolution module's rows is, by token and column.
-/
import proofs.«01_k».proof.Proof.Value.Run
import Idealize.ShloMosaic.Lib.Pipeline.ValueKit

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

variable (m : (ℓ : Loc nD τ sig) → Buf (Elt Ideal) ℓ)

/-! ## The arrays the region starts from -/

/-- The activations, a row per token. -/
def aX (c : Dev nD) (p l : ℕ) : EReal := at2 (n := 16384) (m := 1024) (V m c main_v0) p l
/-- The norm's gain. -/
def aG (c : Dev nD) (p l : ℕ) : EReal := at2 (n := 1) (m := 1024) (V m c main_v4) p l
/-- The projection weights, transposed. -/
def aW (c : Dev nD) (p l : ℕ) : EReal := at2 (n := 8200) (m := 1024) (V m c main_v2) p l
/-- The gates' biases. -/
def aBg (c : Dev nD) (p l : ℕ) : EReal := at2 (n := 8) (m := 1) (V m c main_v6) p l
/-- The convolution's taps. -/
def aCw (c : Dev nD) (p l : ℕ) : EReal := at2 (n := 31) (m := 1024) (V m c main_v7) p l
/-- Its bias. -/
def aCb (c : Dev nD) (p l : ℕ) : EReal := at2 (n := 1) (m := 1024) (V m c main_v9) p l
/-- The layer norm's gain. -/
def aLg (c : Dev nD) (p l : ℕ) : EReal := at2 (n := 1) (m := 1024) (V m c main_v11) p l
/-- Its bias. -/
def aLb (c : Dev nD) (p l : ℕ) : EReal := at2 (n := 1) (m := 1024) (V m c main_v13) p l

/-! ## The blocks, read from the arrays -/

theorem idx_0 : ∀ t : Fin cfg0.N, win0_0.index t = ![min t.val 31, 0] := (by decide +kernel : ∀ t : Fin grid0.N, win0_0.index t = ![min t.val 31, 0])
theorem bX_at (c : Dev nD) (t : Fin cfg0.N) {p l : ℕ} (hp : p < 512) (hl : l < 1024) : at2 (bX m c t) p l = aX m c (512 * min t.val 31 + p) l := by
  unfold aX
  rw [at2_of _ hp hl, at2_of _ (by omega) hl]
  refine congrArg (V m c main_v0) (funext fun k => Fin.ext ?_)
  match k with
  | ⟨0, _⟩ => exact (win0_0.rect_emb_val_off t _ 0).trans (by rw [idx_0]; show min t.val 31 * 512 + p = 512 * min t.val 31 + p; omega)
  | ⟨1, _⟩ => exact (win0_0.rect_emb_val_off t _ 1).trans (by rw [idx_0]; show 0 * 1024 + l = l; omega)
theorem idx_1 : ∀ t : Fin cfg0.N, win0_1.index t = ![0, 0] := (by decide +kernel : ∀ t : Fin grid0.N, win0_1.index t = ![0, 0])
theorem bG_at (c : Dev nD) (t : Fin cfg0.N) {p l : ℕ} (hp : p < 1) (hl : l < 1024) : at2 (bG m c t) p l = aG m c (p) l := by
  unfold aG
  rw [at2_of _ hp hl, at2_of _ (by omega) hl]
  refine congrArg (V m c main_v4) (funext fun k => Fin.ext ?_)
  match k with
  | ⟨0, _⟩ => exact (win0_1.rect_emb_val_off t _ 0).trans (by rw [idx_1]; show 0 * 1 + p = p; omega)
  | ⟨1, _⟩ => exact (win0_1.rect_emb_val_off t _ 1).trans (by rw [idx_1]; show 0 * 1024 + l = l; omega)
theorem idx_2 : ∀ t : Fin cfg0.N, win0_2.index t = ![0, 0] := (by decide +kernel : ∀ t : Fin grid0.N, win0_2.index t = ![0, 0])
theorem bWm_at (c : Dev nD) (t : Fin cfg0.N) {p l : ℕ} (hp : p < 5120) (hl : l < 1024) : at2 (bWm m c t) p l = aW m c (p) l := by
  unfold aW
  rw [at2_of _ hp hl, at2_of _ (by omega) hl]
  refine congrArg (V m c main_v2) (funext fun k => Fin.ext ?_)
  match k with
  | ⟨0, _⟩ => exact (win0_2.rect_emb_val_off t _ 0).trans (by rw [idx_2]; show 0 + p = p; omega)
  | ⟨1, _⟩ => exact (win0_2.rect_emb_val_off t _ 1).trans (by rw [idx_2]; show 0 + l = l; omega)
theorem idx_3 : ∀ t : Fin cfg0.N, win0_3.index t = ![5128, 0] := (by decide +kernel : ∀ t : Fin grid0.N, win0_3.index t = ![5128, 0])
theorem bWc_at (c : Dev nD) (t : Fin cfg0.N) {p l : ℕ} (hp : p < 3072) (hl : l < 1024) : at2 (bWc m c t) p l = aW m c (5128 + p) l := by
  unfold aW
  rw [at2_of _ hp hl, at2_of _ (by omega) hl]
  refine congrArg (V m c main_v2) (funext fun k => Fin.ext ?_)
  match k with
  | ⟨0, _⟩ => exact (win0_3.rect_emb_val_off t _ 0).trans (by rw [idx_3]; show 5128 + p = 5128 + p; omega)
  | ⟨1, _⟩ => exact (win0_3.rect_emb_val_off t _ 1).trans (by rw [idx_3]; show 0 + l = l; omega)
theorem idx_4 : ∀ t : Fin cfg0.N, win0_4.index t = ![5120, 0] := (by decide +kernel : ∀ t : Fin grid0.N, win0_4.index t = ![5120, 0])
theorem bWg_at (c : Dev nD) (t : Fin cfg0.N) {p l : ℕ} (hp : p < 8) (hl : l < 1024) : at2 (bWg m c t) p l = aW m c (5120 + p) l := by
  unfold aW
  rw [at2_of _ hp hl, at2_of _ (by omega) hl]
  refine congrArg (V m c main_v2) (funext fun k => Fin.ext ?_)
  match k with
  | ⟨0, _⟩ => exact (win0_4.rect_emb_val_off t _ 0).trans (by rw [idx_4]; show 5120 + p = 5120 + p; omega)
  | ⟨1, _⟩ => exact (win0_4.rect_emb_val_off t _ 1).trans (by rw [idx_4]; show 0 + l = l; omega)
theorem idx_5 : ∀ t : Fin cfg0.N, win0_5.index t = ![0, 0] := (by decide +kernel : ∀ t : Fin grid0.N, win0_5.index t = ![0, 0])
theorem bBg_at (c : Dev nD) (t : Fin cfg0.N) {p l : ℕ} (hp : p < 8) (hl : l < 1) : at2 (bBg m c t) p l = aBg m c (p) l := by
  unfold aBg
  rw [at2_of _ hp hl, at2_of _ (by omega) hl]
  refine congrArg (V m c main_v6) (funext fun k => Fin.ext ?_)
  match k with
  | ⟨0, _⟩ => exact (win0_5.rect_emb_val_off t _ 0).trans (by rw [idx_5]; show 0 * 8 + p = p; omega)
  | ⟨1, _⟩ => exact (win0_5.rect_emb_val_off t _ 1).trans (by rw [idx_5]; show 0 * 1 + l = l; omega)
theorem idx_6 : ∀ t : Fin cfg0.N, win0_6.index t = ![0, 0] := (by decide +kernel : ∀ t : Fin grid0.N, win0_6.index t = ![0, 0])
theorem bCw_at (c : Dev nD) (t : Fin cfg0.N) {p l : ℕ} (hp : p < 31) (hl : l < 1024) : at2 (bCw m c t) p l = aCw m c (p) l := by
  unfold aCw
  rw [at2_of _ hp hl, at2_of _ (by omega) hl]
  refine congrArg (V m c main_v7) (funext fun k => Fin.ext ?_)
  match k with
  | ⟨0, _⟩ => exact (win0_6.rect_emb_val_off t _ 0).trans (by rw [idx_6]; show 0 * 31 + p = p; omega)
  | ⟨1, _⟩ => exact (win0_6.rect_emb_val_off t _ 1).trans (by rw [idx_6]; show 0 * 1024 + l = l; omega)
theorem idx_7 : ∀ t : Fin cfg0.N, win0_7.index t = ![0, 0] := (by decide +kernel : ∀ t : Fin grid0.N, win0_7.index t = ![0, 0])
theorem bCb_at (c : Dev nD) (t : Fin cfg0.N) {p l : ℕ} (hp : p < 1) (hl : l < 1024) : at2 (bCb m c t) p l = aCb m c (p) l := by
  unfold aCb
  rw [at2_of _ hp hl, at2_of _ (by omega) hl]
  refine congrArg (V m c main_v9) (funext fun k => Fin.ext ?_)
  match k with
  | ⟨0, _⟩ => exact (win0_7.rect_emb_val_off t _ 0).trans (by rw [idx_7]; show 0 * 1 + p = p; omega)
  | ⟨1, _⟩ => exact (win0_7.rect_emb_val_off t _ 1).trans (by rw [idx_7]; show 0 * 1024 + l = l; omega)
theorem idx_8 : ∀ t : Fin cfg0.N, win0_8.index t = ![0, 0] := (by decide +kernel : ∀ t : Fin grid0.N, win0_8.index t = ![0, 0])
theorem bLg_at (c : Dev nD) (t : Fin cfg0.N) {p l : ℕ} (hp : p < 1) (hl : l < 1024) : at2 (bLg m c t) p l = aLg m c (p) l := by
  unfold aLg
  rw [at2_of _ hp hl, at2_of _ (by omega) hl]
  refine congrArg (V m c main_v11) (funext fun k => Fin.ext ?_)
  match k with
  | ⟨0, _⟩ => exact (win0_8.rect_emb_val_off t _ 0).trans (by rw [idx_8]; show 0 * 1 + p = p; omega)
  | ⟨1, _⟩ => exact (win0_8.rect_emb_val_off t _ 1).trans (by rw [idx_8]; show 0 * 1024 + l = l; omega)
theorem idx_9 : ∀ t : Fin cfg0.N, win0_9.index t = ![0, 0] := (by decide +kernel : ∀ t : Fin grid0.N, win0_9.index t = ![0, 0])
theorem bLb_at (c : Dev nD) (t : Fin cfg0.N) {p l : ℕ} (hp : p < 1) (hl : l < 1024) : at2 (bLb m c t) p l = aLb m c (p) l := by
  unfold aLb
  rw [at2_of _ hp hl, at2_of _ (by omega) hl]
  refine congrArg (V m c main_v13) (funext fun k => Fin.ext ?_)
  match k with
  | ⟨0, _⟩ => exact (win0_9.rect_emb_val_off t _ 0).trans (by rw [idx_9]; show 0 * 1 + p = p; omega)
  | ⟨1, _⟩ => exact (win0_9.rect_emb_val_off t _ 1).trans (by rw [idx_9]; show 0 * 1024 + l = l; omega)

/-! ## The values by token -/

/-- The normed activations of token `T`. -/
def vU (c : Dev nD) (T d : ℕ) : EReal := rmsv (aX m c T) (aG m c 0) d
/-- Their projection on column `e`. -/
def vP (c : Dev nD) (T e : ℕ) : EReal := mmv (vU m c) (aW m c) T e
/-- The gates. -/
def vGate (c : Dev nD) (e T : ℕ) : EReal := mmv (aW m c) (vU m c) (5120 + e) T + aBg m c e 0
/-- The gated activations the convolution takes. -/
def vGlu (c : Dev nD) (T l : ℕ) : EReal := gluv (vP m c T (5128 + l)) (vP m c T (5128 + (1024 + l)))
/-- The convolution over token `T`'s window of its own sequence. -/
def vConv (c : Dev nD) (T l : ℕ) : EReal :=
  (∑ j : Fin 31, aCw m c j.val l * (if T % 2048 + j.val < 30 then 0 else vGlu m c (T + j.val - 30) l)) + aCb m c 0 l
/-- The convolution module's result. -/
def vC (c : Dev nD) (T l : ℕ) : EReal :=
  siluv (lnv (vConv m c T) (aLg m c 0) (aLb m c 0) l) * siluv (vP m c T (5128 + (2048 + l)))

/-! ## A point's blocks by token -/

theorem mmv_congr {U U' W W' : ℕ → ℕ → EReal} {p p' e e' : ℕ} (hU : ∀ d, d < 1024 → U p d = U' p' d) (hW : ∀ d, d < 1024 → W e d = W' e' d) :
    mmv U W p e = mmv U' W' p' e' :=
  Finset.sum_congr rfl fun d _ => by rw [hU d.val d.isLt, hW d.val d.isLt]

theorem meanv_congr {r r' : ℕ → EReal} (h : ∀ k, k < 1024 → r k = r' k) : meanv r = meanv r' := by
  unfold meanv; exact congrArg (Ideal.div · n1024) (Finset.sum_congr rfl fun d _ => h d.val d.isLt)

theorem rmsv_congr {r r' g g' : ℕ → EReal} {l : ℕ} (hl : l < 1024) (h : ∀ k, k < 1024 → r k = r' k) (hg : g l = g' l) : rmsv r g l = rmsv r' g' l := by
  unfold rmsv; rw [h l hl, hg, meanv_congr (r := fun k => r k * r k) (r' := fun k => r' k * r' k) fun k hk => by rw [h k hk]]

theorem cenv_congr {r r' : ℕ → EReal} {l : ℕ} (hl : l < 1024) (h : ∀ k, k < 1024 → r k = r' k) : cenv r l = cenv r' l := by
  unfold cenv; rw [h l hl, meanv_congr h]

theorem lnv_congr {r r' g g' b b' : ℕ → EReal} {l : ℕ} (hl : l < 1024) (h : ∀ k, k < 1024 → r k = r' k) (hg : g l = g' l) (hb : b l = b' l) :
    lnv r g b l = lnv r' g' b' l := by
  unfold lnv
  rw [cenv_congr hl h, hg, hb, meanv_congr (r := fun k => cenv r k * cenv r k) (r' := fun k => cenv r' k * cenv r' k) fun k hk => by rw [cenv_congr hk h]]

theorem at2_fun {n m : ℕ} (f : ℕ → ℕ → EReal) {p l : ℕ} (hp : p < n) (hl : l < m) :
    at2 (n := n) (m := m) (fun y => f (y 0).val (y 1).val) p l = f p l := at2_of _ hp hl

/-- The tile of point `t`. -/
abbrev tile (t : Fin cfg0.N) : ℕ := 512 * min t.val 31

theorem uAt_at (c : Dev nD) (t : Fin cfg0.N) {p l : ℕ} (hp : p < 512) (hl : l < 1024) : at2 (uAt m c t) p l = vU m c (tile t + p) l := by
  refine (at2_fun (n := 512) (m := 1024) (fun p l => rmsv (at2 (bX m c t) p) (at2 (bG m c t) 0) l) hp hl).trans ?_
  exact rmsv_congr hl (fun k hk => bX_at m c t hp hk) (bG_at m c t Nat.one_pos hl)

theorem proj_at (c : Dev nD) (t : Fin cfg0.N) {p e : ℕ} (hp : p < 512) (he : e < 5120) :
    mmv (at2 (uAt m c t)) (at2 (bWm m c t)) p e = vP m c (tile t + p) e :=
  mmv_congr (fun d hd => uAt_at m c t hp hd) (fun d hd => bWm_at m c t he hd)

theorem wide_at (c : Dev nD) (t : Fin cfg0.N) {p e : ℕ} (hp : p < 512) (he : e < 3072) :
    mmv (at2 (uAt m c t)) (at2 (bWc m c t)) p e = vP m c (tile t + p) (5128 + e) :=
  mmv_congr (fun d hd => uAt_at m c t hp hd) (fun d hd => bWc_at m c t he hd)

theorem gate_at (c : Dev nD) (t : Fin cfg0.N) {p e : ℕ} (hp : p < 512) (he : e < 8) :
    mmv (at2 (bWg m c t)) (at2 (uAt m c t)) e p + at2 (bBg m c t) e 0 = vGate m c e (tile t + p) := by
  rw [bBg_at m c t he Nat.one_pos]
  exact congrArg (· + _) (mmv_congr (fun d hd => bWg_at m c t he hd) (fun d hd => uAt_at m c t hp hd))

theorem glu_at (c : Dev nD) (t : Fin cfg0.N) {p l : ℕ} (hp : p < 512) (hl : l < 1024) :
    glu2 (Gag (bWc m c t) (uAt m c t)) p l = vGlu m c (tile t + p) l := by
  unfold glu2 vGlu
  rw [show at2 (Gag (bWc m c t) (uAt m c t)) p l = _ from at2_fun (n := 512) (m := 2048) (mmv (at2 (uAt m c t)) (at2 (bWc m c t))) hp (by omega),
    show at2 (Gag (bWc m c t) (uAt m c t)) p (1024 + l) = _ from at2_fun (n := 512) (m := 2048) (mmv (at2 (uAt m c t)) (at2 (bWc m c t))) hp (by omega),
    wide_at m c t hp (by omega), wide_at m c t hp (by omega)]

/-! ## The carried buffer by token -/

/-- Whether point `n`'s tile begins a sequence, as the program finds it. -/
theorem begins : ∀ n, n < 33 →
    Scalar.cmpi .eq (Scalar.select (Scalar.andi (Scalar.xori (Scalar.cmpi .slt (Scalar.remsi (BitVec.ofNat 32 n) (Scalar.select (Scalar.cmpi .eq 4#32 0#32) 1#32 4#32)) 0#32)
        (Scalar.cmpi .slt (Scalar.select (Scalar.cmpi .eq 4#32 0#32) 1#32 4#32) 0#32)) (Scalar.cmpi .ne (Scalar.remsi (BitVec.ofNat 32 n) (Scalar.select (Scalar.cmpi .eq 4#32 0#32) 1#32 4#32)) 0#32))
      (Scalar.addi (Scalar.remsi (BitVec.ofNat 32 n) (Scalar.select (Scalar.cmpi .eq 4#32 0#32) 1#32 4#32)) (Scalar.select (Scalar.cmpi .eq 4#32 0#32) 1#32 4#32))
      (Scalar.remsi (BitVec.ofNat 32 n) (Scalar.select (Scalar.cmpi .eq 4#32 0#32) 1#32 4#32))) 0#32 = if n % 4 = 0 then 1#1 else 0#1 := by decide +kernel

/-- The history kept at point `n`: none when the tile begins a sequence. -/
theorem history (n : ℕ) (hn : n < 33) (v : S32x1024.Idx → EReal) : k0_pay1719 (F := Ideal) (BitVec.ofNat 32 n) v = if n % 4 = 0 then fun _ => 0 else v := by
  unfold k0_pay1719
  dsimp only
  rw [begins n hn]
  by_cases h : n % 4 = 0
  · rw [if_pos h, if_pos h]
    exact funext fun _ => Ideal.ofBits_zero_f32
  · rw [if_neg h, if_neg h]
    rfl

theorem nextBuf_at (n : ℕ) (hn : n < 33) (B : S544x1024.Idx → EReal) (Wc : S3072x1024.Idx → EReal) (U : S512x1024.Idx → EReal) {r l : ℕ} (hr : r < 544) (hl : l < 1024) :
    at2 (nextBuf n B Wc U) r l = if r < 32 then (if n % 4 = 0 then 0 else at2 B (512 + r) l) else glu2 (Gag Wc U) (r - 32) l := by
  rw [at2_of _ hr hl]
  unfold nextBuf
  rw [history n hn]
  show (if r < 32 then _ else _) = _
  by_cases h : r < 32
  · rw [if_pos h, if_pos h]
    by_cases h4 : n % 4 = 0
    · simp only [if_pos h4]
      exact at2_of _ h hl
    · simp only [if_neg h4]
      exact (at2_blk B (inb2 (by omega) le_rfl) h hl).trans (by rw [Nat.zero_add])
  · rw [if_neg h, if_neg h]

theorem buf_at (c : Dev nD) : ∀ n, n < 32 → ∀ r l, r < 544 → l < 1024 →
    at2 (bufN m c (n + 1)) r l = if r < 32 ∧ n % 4 = 0 then 0 else vGlu m c (512 * n + r - 32) l := by
  intro n
  induction n with
  | zero =>
    intro hn r l hr hl
    rw [bufN_succ m c ⟨0, by show 0 < 33; omega⟩, nextBuf_at 0 (by omega) _ _ _ hr hl]
    by_cases h : r < 32
    · simp only [if_pos h, h, true_and, Nat.zero_mod, if_true]
    · rw [if_neg h, if_neg fun a => h a.1, glu_at m c _ (by omega) hl]
      exact congrArg (vGlu m c · l) (by show 512 * min 0 31 + (r - 32) = _; omega)
  | succ n ih =>
    intro hn r l hr hl
    rw [bufN_succ m c ⟨n + 1, by show n + 1 < 33; omega⟩, nextBuf_at (n + 1) (by omega) _ _ _ hr hl]
    by_cases h : r < 32
    · rw [if_pos h]
      by_cases h4 : (n + 1) % 4 = 0
      · rw [if_pos h4, if_pos ⟨h, h4⟩]
      · rw [if_neg h4, if_neg fun a => h4 a.2, ih (by omega) _ _ (by omega) hl, if_neg fun a => by omega]
        exact congrArg (vGlu m c · l) (by omega)
    · rw [if_neg h, if_neg fun a => h a.1, glu_at m c _ (by omega) hl]
      exact congrArg (vGlu m c · l) (by show 512 * min (n + 1) 31 + (r - 32) = _; omega)

theorem conv_at (c : Dev nD) (t : Fin cfg0.N) {n : ℕ} (hn : n < 32) {p l : ℕ} (hp : p < 512) (hl : l < 1024) :
    at2 (Gacc (bCw m c t) (bCb m c t) (bufN m c (n + 1))) p l = vConv m c (512 * n + p) l := by
  refine (at2_fun (n := 512) (m := 1024) (fun p l => convv (at2 (bCw m c t)) (at2 (bufN m c (n + 1))) (at2 (bCb m c t) 0) p l) hp hl).trans ?_
  unfold convv vConv
  rw [bCb_at m c t Nat.one_pos hl]
  refine congrArg (· + _) (Finset.sum_congr rfl fun j _ => ?_)
  have hj := j.isLt
  rw [bCw_at m c t j.isLt hl, buf_at m c n hn _ _ (by omega) hl]
  by_cases h : p + 2 + j.val < 32 ∧ n % 4 = 0
  · rw [if_pos h, if_pos (by omega)]
  · rw [if_neg h, if_neg (by omega)]
    exact congrArg (fun T => aCw m c j.val l * vGlu m c T l) (by omega)

theorem z_at (c : Dev nD) {n : ℕ} (hn : n < 32) {p l : ℕ} (hp : p < 512) (hl : l < 1024) :
    at2 (zN m c (n + 1)) p l = vP m c (512 * n + p) (5128 + (2048 + l)) := by
  rw [zN_succ m c ⟨n, by show n < 33; omega⟩]
  refine (at2_fun (n := 512) (m := 1024) (fun p l => mmv (at2 (uAt m c ⟨n, _⟩)) (at2 (bWc m c ⟨n, _⟩)) p (2048 + l)) hp hl).trans ?_
  exact (wide_at m c _ hp (by omega)).trans (congrArg (vP m c · _) (by show 512 * min n 31 + p = _; omega))

theorem c_at (c : Dev nD) (t : Fin cfg0.N) (ht : t.val ≠ 0) {p l : ℕ} (hp : p < 512) (hl : l < 1024) :
    at2 (Gc (bLg m c t) (bLb m c t) (Gacc (bCw m c t) (bCb m c t) (bufN m c t.val)) (zN m c t.val)) p l = vC m c (512 * (t.val - 1) + p) l := by
  have h33 : t.val < 33 := t.isLt
  obtain ⟨n, hn⟩ : ∃ n, t.val = n + 1 := ⟨t.val - 1, by omega⟩
  rw [hn, Nat.add_sub_cancel, at2_of _ hp hl]
  unfold Gc vC
  rw [← at2_of (zN m c (n + 1)) hp hl, z_at m c (by omega) hp hl]
  refine congrArg (fun x => siluv x * _) ?_
  exact lnv_congr hl (fun k hk => conv_at m c t (by omega) hp hk) (bLg_at m c t Nat.one_pos hl) (bLb_at m c t Nat.one_pos hl)

/-! ## The result arrays -/

theorem idx_10 : ∀ t : Fin cfg0.N, win0_10.index t = ![min t.val 31, 0] := (by decide +kernel : ∀ t : Fin grid0.N, win0_10.index t = ![min t.val 31, 0])
theorem idx_11 : ∀ t : Fin cfg0.N, win0_11.index t = ![0, min t.val 31] := (by decide +kernel : ∀ t : Fin grid0.N, win0_11.index t = ![0, min t.val 31])
theorem idx_12 : ∀ t : Fin cfg0.N, win0_12.index t = ![t.val - 1, 0] := (by decide +kernel : ∀ t : Fin grid0.N, win0_12.index t = ![t.val - 1, 0])
theorem flush_12 : ∀ t : Fin cfg0.N, win0_12.flush t = true → t.val ≠ 0 := (by decide +kernel : ∀ t : Fin grid0.N, win0_12.flush t = true → t.val ≠ 0)

/-- The projections, -/
def outP (c : Dev nD) : S16384x5120.Idx → EReal := fun y => vP m c (y 0).val (y 1).val
/-- the gates, -/
def outG (c : Dev nD) : S8x16384.Idx → EReal := fun y => vGate m c (y 0).val (y 1).val
/-- the convolution module's rows. -/
def outC (c : Dev nD) : S16384x1024.Idx → EReal := fun y => vC m c (y 0).val (y 1).val

theorem final_P (c : Dev nD) : (dats m 0 c).arrAt 10 cfg0.N = outP m c := by
  refine (dats m 0 c).arrAt_eq_of_covers 10 (outP m c) (by decide +kernel) fun t hf y => ?_
  have h0 : ((cfg0.win 10).rect t).emb y 0 = 512 * min t.val 31 + (y 0).val := (win0_10.rect_emb_val_off t y 0).trans (by rw [idx_10]; show min t.val 31 * 512 + _ = _; omega)
  have h1 : ((cfg0.win 10).rect t).emb y 1 = (y 1).val := (win0_10.rect_emb_val_off t y 1).trans (by rw [idx_10]; show 0 * 5120 + _ = _; omega)
  show Gproj (bWm m c t) (uAt m c t) y = vP m c _ _
  exact (proj_at m c t (y 0).isLt (y 1).isLt).trans (congrArg₂ (vP m c) h0.symm h1.symm)

theorem final_G (c : Dev nD) : (dats m 0 c).arrAt 11 cfg0.N = outG m c := by
  refine (dats m 0 c).arrAt_eq_of_covers 11 (outG m c) (by decide +kernel) fun t hf y => ?_
  have h0 : ((cfg0.win 11).rect t).emb y 0 = (y 0).val := (win0_11.rect_emb_val_off t y 0).trans (by rw [idx_11]; show 0 * 8 + _ = _; omega)
  have h1 : ((cfg0.win 11).rect t).emb y 1 = 512 * min t.val 31 + (y 1).val := (win0_11.rect_emb_val_off t y 1).trans (by rw [idx_11]; show min t.val 31 * 512 + _ = _; omega)
  show Ggate (bWg m c t) (bBg m c t) (uAt m c t) y = vGate m c _ _
  exact (gate_at m c t (y 1).isLt (y 0).isLt).trans (congrArg₂ (vGate m c) h0.symm h1.symm)

theorem final_C (c : Dev nD) : (dats m 0 c).arrAt 12 cfg0.N = outC m c := by
  refine (dats m 0 c).arrAt_eq_of_covers 12 (outC m c) (by decide +kernel) fun t hf y => ?_
  have h0 : ((cfg0.win 12).rect t).emb y 0 = 512 * (t.val - 1) + (y 0).val := (win0_12.rect_emb_val_off t y 0).trans (by rw [idx_12]; show (t.val - 1) * 512 + _ = _; omega)
  have h1 : ((cfg0.win 12).rect t).emb y 1 = (y 1).val := (win0_12.rect_emb_val_off t y 1).trans (by rw [idx_12]; show 0 * 1024 + _ = _; omega)
  show Gc (bLg m c t) (bLb m c t) (Gacc (bCw m c t) (bCb m c t) (bufN m c t.val)) (zN m c t.val) y = vC m c _ _
  refine ((at2_idx (n := 512) (m := 1024) _ y).symm.trans (c_at m c t (flush_12 t hf) (y 0).isLt (y 1).isLt)).trans (congrArg₂ (vC m c) h0.symm h1.symm)

end Cert.KernelIdeal.Value

end
-- ==== Proof.Value.Entry.lean ====
/-
  The arrays the region of the idealized kernel starts from, as functions of the arguments: the host reshapes the activations
  to a row per token, transposes the projection weights and drops the unit axes.
-/
import proofs.«01_k».proof.Proof.Value.Arr

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem

/-- The activations, a row per token. -/
def rowX (x : S8x2048x1024.Idx → EReal) : S16384x1024.Idx → EReal := fun y =>
  x (ValueIdx.ix3 ⟨(y 0).val / 2048, by have := idx2_lt0 y; omega⟩ ⟨(y 0).val % 2048, Nat.mod_lt _ (by decide)⟩ (y 1))
/-- The projection weights, transposed. -/
def rowW (w : S1x1024x8200.Idx → EReal) : S8200x1024.Idx → EReal := fun y => w (ValueIdx.ix3 0 (y 1) (y 0))
/-- The gates' biases, as a column. -/
def rowBg (b : S1x8.Idx → EReal) : S8x1.Idx → EReal := fun y => b (ValueIdx.ix2 0 (y 0))
/-- The taps. -/
def rowCw (w : S1x31x1024.Idx → EReal) : S31x1024.Idx → EReal := fun y => w (ValueIdx.ix3 0 (y 0) (y 1))

variable (m : (ℓ : Loc nD τ sig) → Buf (Elt Ideal) ℓ)

/-- A row vector, its unit axis dropped and put back. -/
theorem row_back (x : S1x1024.Idx → EReal) (h : S1024.BroadcastsInDim S1x1024 ![1]) (h' : S1x1024.ShapeCasts S1024) :
    broadcastInDim S1x1024 ![1] h (fun i => shapeCast S1024 x h' i) = x := by
  funext y
  have h0 := idx2_lt0 y
  refine (broadcastInDim_apply _ h _ y (ix1 (n := 1024) (y 1)) (fun a => ?_)).trans (shapeCast_apply x h' _ y ?_)
  · match a with
    | ⟨0, _⟩ => exact (if_neg (show ¬ (1024 : ℕ) = 1 by decide)).symm
  · rewrite [Shape.rowMajor_val_two, Shape.rowMajor_val_one]
    show (y 0).val * 1024 + (y 1).val = (y 1).val
    omega

theorem entry_X (c : Dev nD) : V m c main_v0 = rowX (m (c, Proc.devRef .tc main_arg0)) := by
  entry_read
  funext y
  have h0 := idx2_lt0 (n0 := 16384) (n1 := 1024) y
  refine shapeCast_apply _ shapeCasts_S8x2048x1024_S16384x1024 y (ValueIdx.ix3 (n0 := 8) (n1 := 2048) (n2 := 1024) ⟨(y 0).val / 2048, by omega⟩ ⟨(y 0).val % 2048, Nat.mod_lt _ (by decide)⟩ (y 1)) ?_
  rewrite [Shape.rowMajor_val_three, Shape.rowMajor_val_two]
  show ((y 0).val / 2048 * 2048 + (y 0).val % 2048) * 1024 + (y 1).val = (y 0).val * 1024 + (y 1).val
  omega

theorem entry_W (c : Dev nD) : V m c main_v2 = rowW (m (c, Proc.devRef .tc main_arg2)) := by
  entry_read
  funext y
  refine (transpose_apply _ _ transposes_S1024x8200_S8200x1024_1_0 y (ValueIdx.ix2 (n0 := 1024) (n1 := 8200) (y 1) (y 0)) (fun a => ?_)).trans
    (shapeCast_apply _ shapeCasts_S1x1024x8200_S1024x8200 _ (ValueIdx.ix3 (n0 := 1) (n1 := 1024) (n2 := 8200) 0 (y 1) (y 0)) ?_)
  · match a with
    | ⟨0, _⟩ => rfl
    | ⟨1, _⟩ => rfl
  · rewrite [Shape.rowMajor_val_three, Shape.rowMajor_val_two]
    show (0 * 1024 + (y 1).val) * 8200 + (y 0).val = (y 1).val * 8200 + (y 0).val
    omega

theorem entry_G (c : Dev nD) : V m c main_v4 = m (c, Proc.devRef .tc main_arg1) := by
  entry_read
  exact row_back _ _ _
theorem entry_Cb (c : Dev nD) : V m c main_v9 = m (c, Proc.devRef .tc main_arg5) := by
  entry_read
  exact row_back _ _ _
theorem entry_Lg (c : Dev nD) : V m c main_v11 = m (c, Proc.devRef .tc main_arg6) := by
  entry_read
  exact row_back _ _ _
theorem entry_Lb (c : Dev nD) : V m c main_v13 = m (c, Proc.devRef .tc main_arg7) := by
  entry_read
  exact row_back _ _ _

theorem entry_Bg (c : Dev nD) : V m c main_v6 = rowBg (m (c, Proc.devRef .tc main_arg3)) := by
  entry_read
  funext y
  refine (broadcastInDim_apply _ bcast_S8_S8x1_0 _ y (ix1 (n := 8) (y 0)) (fun a => ?_)).trans
    (shapeCast_apply _ shapeCasts_S1x8_S8 _ (ValueIdx.ix2 (n0 := 1) (n1 := 8) 0 (y 0)) ?_)
  · match a with
    | ⟨0, _⟩ => exact (if_neg (show ¬ (8 : ℕ) = 1 by decide)).symm
  · rewrite [Shape.rowMajor_val_two, Shape.rowMajor_val_one]
    show 0 * 8 + (y 0).val = (y 0).val
    omega

theorem entry_Cw (c : Dev nD) : V m c main_v7 = rowCw (m (c, Proc.devRef .tc main_arg4)) := by
  entry_read
  funext y
  refine shapeCast_apply _ shapeCasts_S1x31x1024_S31x1024 y (ValueIdx.ix3 (n0 := 1) (n1 := 31) (n2 := 1024) 0 (y 0) (y 1)) ?_
  rewrite [Shape.rowMajor_val_three, Shape.rowMajor_val_two]
  show (0 * 31 + (y 0).val) * 1024 + (y 1).val = (y 0).val * 1024 + (y 1).val
  omega

end Cert.KernelIdeal.Value

end
-- ==== Proof.Value.Real.lean ====
/-
  Facts of the extended reals the two programs' activations rest on: the logistic function as half a hyperbolic tangent plus a half, and which
  values are real numbers.
-/
import proofs.«01_k».proof.Proof.Value.Pre

noncomputable section

namespace Cert.KernelIdeal.Value

open Idealize.ShloMosaic

theorem half_eq : half = ((1 / 2 : ℝ) : EReal) := by
  unfold half
  simp [Ideal.ofBits, Ideal.ieee, -EReal.coe_mul]
  try norm_num
theorem n1024_eq : n1024 = ((1024 : ℝ) : EReal) := by
  unfold n1024
  simp [Ideal.ofBits, Ideal.ieee, -EReal.coe_mul]
  try norm_num
theorem one_eq : Ideal.ofBits .f32 0x3F800000#32 = (1 : EReal) := by
  simp [Ideal.ofBits, Ideal.ieee, -EReal.coe_mul]
  try norm_num
theorem eps_eq : ∃ e : ℝ, 0 < e ∧ eps = (e : EReal) := by
  unfold eps
  simp [Ideal.ofBits, Ideal.ieee, -EReal.coe_mul]
  try norm_num

/-- In the reals, the logistic function is half the hyperbolic tangent of half the argument, plus a half. -/
theorem real_logistic (r : ℝ) : 1 * (1 + Real.exp (-r))⁻¹ = 1 / 2 * Real.tanh (1 / 2 * r) + 1 / 2 := by
  have e : Real.exp (-r) = Real.exp (-(1 / 2 * r)) * Real.exp (-(1 / 2 * r)) := by rw [← Real.exp_add]; ring_nf
  have i : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have hs : a + b ≠ 0 := by positivity
  have ht : 1 + b * b ≠ 0 := by positivity
  field_simp
  nlinarith [i]

/-- The reference's logistic function, at every extended real. -/
theorem logistic_eq (x : EReal) : Ideal.div 1 (1 + Ideal.exp (-x)) = half * Ideal.tanh (half * x) + half := by
  rw [half_eq]
  have hp : (0 : ℝ) < 1 / 2 := by norm_num
  induction x with
  | bot =>
    rw [EReal.coe_mul_bot_of_pos hp, Ideal.tanh_bot, EReal.neg_bot]
    show Ideal.div 1 (1 + ⊤) = _
    have : (1 : EReal) + ⊤ = ⊤ := rfl
    rw [this, Ideal.div, if_neg (by simp), EReal.inv_top, mul_zero]
    have : (((1 / 2 : ℝ) : EReal)) * -1 + ((1 / 2 : ℝ) : EReal) = ((1 / 2 * -1 + 1 / 2 : ℝ) : EReal) := by push_cast; rfl
    rw [this]; norm_num
  | top =>
    rw [EReal.coe_mul_top_of_pos hp, Ideal.tanh_top, EReal.neg_top]
    show Ideal.div 1 (1 + 0) = _
    rw [add_zero, Ideal.div, if_neg one_ne_zero, mul_one, one_mul]
    have : (((1 / 2 : ℝ) : EReal)) + ((1 / 2 : ℝ) : EReal) = ((1 / 2 + 1 / 2 : ℝ) : EReal) := by push_cast; rfl
    rw [this]; norm_num
  | coe r =>
    rw [← EReal.coe_neg, Ideal.exp_coe, ← EReal.coe_mul, Ideal.tanh_coe, ← EReal.coe_mul, ← EReal.coe_add, ← real_logistic]
    have hz : 0 < 1 + Real.exp (-r) := by positivity
    rw [← EReal.coe_one, ← EReal.coe_add, Ideal.div, if_neg (by exact_mod_cast hz.ne'), ← EReal.coe_inv, ← EReal.coe_mul]

/-- The kernel's gated linear unit is the product with the logistic function. -/
theorem gluv_eq (a g : EReal) : a * Ideal.div 1 (1 + Ideal.exp (-g)) = gluv a g := by rw [logistic_eq]; rfl

/-! ## Real values -/

/-- The extended real is a real number. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem IsR.tanh {x : EReal} : IsR x → IsR (Ideal.tanh x) := fun ⟨a, ha⟩ => ⟨Real.tanh a, by rw [ha, Ideal.tanh_coe]⟩
theorem isR_zero : IsR 0 := ⟨0, rfl⟩
theorem isR_half : IsR half := ⟨_, half_eq⟩
theorem IsR.sum {n : ℕ} {f : Fin n → EReal} (h : ∀ k, IsR (f k)) : IsR (∑ k, f k) :=
  Finset.sum_induction f IsR (fun _ _ => IsR.add) isR_zero fun k _ => h k
theorem isR_gluv {a g : EReal} (ha : IsR a) (hg : IsR g) : IsR (gluv a g) := ha.mul ((isR_half.mul (isR_half.mul hg).tanh).add isR_half)
theorem isR_mmv {U W : ℕ → ℕ → EReal} {p e : ℕ} (hU : ∀ d, IsR (U p d)) (hW : ∀ d, IsR (W e d)) : IsR (mmv U W p e) :=
  IsR.sum fun d => (hU d.val).mul (hW d.val)

theorem coe_sum {n : ℕ} (f : Fin n → ℝ) : ∑ k, (f k : EReal) = ((∑ k, f k : ℝ) : EReal) := by
  classical
  induction (Finset.univ : Finset (Fin n)) using Finset.induction with
  | empty => simp
  | insert a s ha ih => rw [Finset.sum_insert ha, Finset.sum_insert ha, ih, EReal.coe_add]

theorem div_n1024 (r : ℝ) : Ideal.div (r : EReal) n1024 = ((r * (1024 : ℝ)⁻¹ : ℝ) : EReal) := by
  rw [n1024_eq, Ideal.div, if_neg (by exact_mod_cast (by norm_num : (1024 : ℝ) ≠ 0)), ← EReal.coe_inv, ← EReal.coe_mul]

theorem isR_meanv {r : ℕ → EReal} (h : ∀ k, IsR (r k)) : IsR (meanv r) := by
  obtain ⟨s, hs⟩ := IsR.sum (n := 1024) (f := fun l => r l.val) fun l => h l.val
  unfold meanv
  rw [hs, div_n1024]
  exact ⟨_, rfl⟩

/-- The mean of squares of real numbers, plus the small term, has a real inverse root. -/
theorem isR_rsqrt {r : ℕ → EReal} (h : ∀ k, IsR (r k)) : IsR (Ideal.rsqrt (meanv (fun k => r k * r k) + eps)) := by
  choose q hq using h
  obtain ⟨e, he, hE⟩ := eps_eq
  have hs : ∑ l : Fin 1024, r l.val * r l.val = ((∑ l : Fin 1024, q l.val * q l.val : ℝ) : EReal) := by
    rw [← coe_sum]
    exact Finset.sum_congr rfl fun l _ => by rw [hq, EReal.coe_mul]
  have h0 : 0 ≤ ∑ l : Fin 1024, q l.val * q l.val := Finset.sum_nonneg fun l _ => mul_self_nonneg _
  have hp : 0 < (∑ l : Fin 1024, q l.val * q l.val) * (1024 : ℝ)⁻¹ + e := by positivity
  unfold meanv
  rw [hs, div_n1024, hE, ← EReal.coe_add]
  rw [Ideal.rsqrt_coe, if_neg hp.not_gt, if_neg hp.ne']
  exact ⟨_, rfl⟩

theorem isR_rmsv {r g : ℕ → EReal} (h : ∀ k, IsR (r k)) (hg : ∀ k, IsR (g k)) (l : ℕ) : IsR (rmsv r g l) := ((h l).mul (isR_rsqrt h)).mul (hg l)
theorem isR_cenv {r : ℕ → EReal} (h : ∀ k, IsR (r k)) (l : ℕ) : IsR (cenv r l) := (h l).sub (isR_meanv h)
theorem isR_lnv {r g b : ℕ → EReal} (h : ∀ k, IsR (r k)) (hg : ∀ k, IsR (g k)) (hb : ∀ k, IsR (b k)) (l : ℕ) : IsR (lnv r g b l) :=
  (((isR_cenv h l).mul (isR_rsqrt fun k => isR_cenv h k)).mul (hg l)).add (hb l)

/-- At a real number, the kernel's SiLU is the product with the logistic function. -/
theorem siluv_eq {x : EReal} (h : IsR x) : x * Ideal.div 1 (1 + Ideal.exp (-x)) = siluv x := by
  obtain ⟨r, rfl⟩ := h
  rw [logistic_eq]
  unfold siluv
  rw [half_eq]
  simp only [← EReal.coe_mul, Ideal.tanh_coe, ← EReal.coe_add]
  congr 1
  ring

end Cert.KernelIdeal.Value

end
-- ==== Proof.Value.Ref.lean ====
/-
  The reference's three results at an index, by token and column: the same functions of the arguments as the kernel's arrays, with the logistic
  function in place of the hyperbolic tangent.
-/
import proofs.«01_k».proof.Proof.Value.Entry
import proofs.«01_k».proof.Proof.Value.Real
import proofs.«01_k».proof.Proof.Gen.ReferenceIdeal.Read

noncomputable section

namespace Cert.ReferenceIdeal.Value

open Cert.ReferenceIdeal Cert.ReferenceIdeal.Gen Cert.ReferenceIdeal.Read
open Cert.KernelIdeal.Value (at2 at2_of rmsv mmv meanv cenv lnv gluv siluv half n1024 eps rowX rowW rowBg rowCw gluv_eq one_eq)
open Idealize.ShloMosaic Idealize.ShloMosaic.TcCoe Idealize.ShloMosaic.ValueIdx

/-! ## The results as functions of matrices -/

section Spec
variable (X G W B Cw Cb Lg Lb : ℕ → ℕ → EReal)

/-- The normed activations, -/
def pU (T d : ℕ) : EReal := rmsv (X T) (G 0) d
/-- the projection, -/
def pP (T e : ℕ) : EReal := mmv (pU X G) W T e
/-- the gates, -/
def pGate (e T : ℕ) : EReal := mmv W (pU X G) (5120 + e) T + B e 0
/-- the gated linear unit, -/
def pGlu (T l : ℕ) : EReal := gluv (pP X G W T (5128 + l)) (pP X G W T (5128 + (1024 + l)))
/-- the convolution, -/
def pConv (T l : ℕ) : EReal := (∑ j : Fin 31, Cw j.val l * (if T % 2048 + j.val < 30 then 0 else pGlu X G W (T + j.val - 30) l)) + Cb 0 l
/-- its layer norm, -/
def pLn (T l : ℕ) : EReal := lnv (pConv X G W Cw Cb T) (Lg 0) (Lb 0) l
/-- the convolution's gate. -/
def pZ (T l : ℕ) : EReal := pP X G W T (5128 + (2048 + l))

end Spec

/-- A value times its logistic function. -/
def swish (x : EReal) : EReal := x * Ideal.div 1 (1 + Ideal.exp (-x))

variable (x0 : (⟨S8x2048x1024, .f32⟩ : BufTy).Contents (Elt Ideal)) (x1 : (⟨S1x1024, .f32⟩ : BufTy).Contents (Elt Ideal))
  (x2 : (⟨S1x1024x8200, .f32⟩ : BufTy).Contents (Elt Ideal)) (x3 : (⟨S1x8, .f32⟩ : BufTy).Contents (Elt Ideal))
  (x4 : (⟨S1x31x1024, .f32⟩ : BufTy).Contents (Elt Ideal)) (x5 x6 x7 : (⟨S1x1024, .f32⟩ : BufTy).Contents (Elt Ideal))

/-! ## The arguments at a token -/

theorem x_at (j : S8x2048x1024.Idx) {a b l : ℕ} (ha : (j 0).val = a) (hb : (j 1).val = b) (hl : (j 2).val = l) :
    x0 j = at2 (rowX x0) (2048 * a + b) l := by
  have h0 : (j 0).val < 8 := (j 0).isLt
  have h1 : (j 1).val < 2048 := (j 1).isLt
  have h2 : (j 2).val < 1024 := (j 2).isLt
  subst ha hb hl
  rw [at2_of _ (by omega) h2]
  refine congrArg x0 (funext fun k => Fin.ext ?_)
  match k with
  | ⟨0, _⟩ => show (j 0).val = (2048 * (j 0).val + (j 1).val) / 2048; omega
  | ⟨1, _⟩ => show (j 1).val = (2048 * (j 0).val + (j 1).val) % 2048; omega
  | ⟨2, _⟩ => rfl

theorem row_at (x : S1x1024.Idx → EReal) (j : S1x1024.Idx) {l : ℕ} (hl : (j 1).val = l) : x j = at2 (n := 1) (m := 1024) x 0 l := by
  have h0 : (j 0).val < 1 := (j 0).isLt
  have h1 : (j 1).val < 1024 := (j 1).isLt
  subst hl
  rw [at2_of _ Nat.one_pos h1]
  refine congrArg x (funext fun k => Fin.ext ?_)
  match k with
  | ⟨0, _⟩ => show (j 0).val = 0; omega
  | ⟨1, _⟩ => rfl

theorem w_at (j : S1x1024x8200.Idx) {d e : ℕ} (hd : (j 1).val = d) (he : (j 2).val = e) : x2 j = at2 (rowW x2) e d := by
  have h0 : (j 0).val < 1 := (j 0).isLt
  have h1 : (j 1).val < 1024 := (j 1).isLt
  have h2 : (j 2).val < 8200 := (j 2).isLt
  subst hd he
  rw [at2_of _ h2 h1]
  refine congrArg x2 (funext fun k => Fin.ext ?_)
  match k with
  | ⟨0, _⟩ => show (j 0).val = 0; omega
  | ⟨1, _⟩ => rfl
  | ⟨2, _⟩ => rfl

theorem bg_at (j : S1x8.Idx) {e : ℕ} (he : (j 1).val = e) : x3 j = at2 (rowBg x3) e 0 := by
  have h0 : (j 0).val < 1 := (j 0).isLt
  have h1 : (j 1).val < 8 := (j 1).isLt
  subst he
  rw [at2_of _ h1 Nat.one_pos]
  refine congrArg x3 (funext fun k => Fin.ext ?_)
  match k with
  | ⟨0, _⟩ => show (j 0).val = 0; omega
  | ⟨1, _⟩ => rfl

theorem cw_at (j : S1x31x1024.Idx) {o l : ℕ} (ho : (j 1).val = o) (hl : (j 2).val = l) : x4 j = at2 (rowCw x4) o l := by
  have h0 : (j 0).val < 1 := (j 0).isLt
  have h1 : (j 1).val < 31 := (j 1).isLt
  have h2 : (j 2).val < 1024 := (j 2).isLt
  subst ho hl
  rw [at2_of _ h1 h2]
  refine congrArg x4 (funext fun k => Fin.ext ?_)
  match k with
  | ⟨0, _⟩ => show (j 0).val = 0; omega
  | ⟨1, _⟩ => rfl
  | ⟨2, _⟩ => rfl

/-! ## The projection -/

/-- The normed activations at an index. -/
theorem u_at (i : S8x2048x1024.Idx) {a b d : ℕ} (ha : (i 0).val = a) (hb : (i 1).val = b) (hd : (i 2).val = d) :
    val_main_v13 (F := Ideal) x0 x1 i = pU (at2 (rowX x0)) (at2 (n := 1) (m := 1024) x1) (2048 * a + b) d := by
  have hd' : (i 2).val < 1024 := (i 2).isLt
  rw [val_main_v13_apply, val_main_v10_apply, val_main_v9_apply, val_main_v8_apply, val_main_v7_apply, val_main_v5_apply, val_main_v3_apply,
    val_main_v2_apply, val_main_v6_apply, val_main_v4_apply, val_main_v12_apply, val_main_v11_apply, val_main_v0_apply, val_main_cst_apply,
    val_main_cst_0_apply, val_main_cst_1_apply]
  unfold pU rmsv meanv
  rw [Ideal.ofBits_def, Ideal.ofBits_zero_f32, zero_add]
  refine congrArg₂ (· * ·) (congrArg₂ (· * ·) (x_at x0 i ha hb hd) (congrArg (fun s => Ideal.rsqrt (Ideal.div s n1024 + eps)) (Finset.sum_congr rfl fun k _ => ?_)))
    (row_at x1 _ (show (i 2).val % 1024 = d by omega))
  have e := x_at x0 (idx_main_v2 (idx_main_v3 (idx_main_v9 i)) k) ha hb rfl
  exact congrArg₂ (· * ·) e e

/-- The projection at an index. -/
theorem p_at (i : S8x2048x8200.Idx) {a b e : ℕ} (ha : (i 0).val = a) (hb : (i 1).val = b) (he : (i 2).val = e) :
    val_main_v15 (F := Ideal) x0 x1 x2 i = pP (at2 (rowX x0)) (at2 (n := 1) (m := 1024) x1) (at2 (rowW x2)) (2048 * a + b) e := by
  have he' : (i 2).val < 8200 := (i 2).isLt
  rw [val_main_v15_apply]
  unfold pP mmv
  refine Finset.sum_congr rfl fun k _ => ?_
  refine congrArg₂ (· * ·) (u_at x0 x1 _ ha hb rfl) ((val_main_v14_apply x2 _).trans (w_at x2 _ ?_ ?_))
  · show (k.val * 8200 + (i 2).val) / 8200 % 1024 = k.val
    have := k.isLt
    omega
  · show (k.val * 8200 + (i 2).val) % 8200 = e
    omega

/-- The projections' result. -/
theorem res_P (y : S16384x5120.Idx) : val_main_v291 (F := Ideal) x0 x1 x2 y
    = pP (at2 (rowX x0)) (at2 (n := 1) (m := 1024) x1) (at2 (rowW x2)) (y 0).val (y 1).val := by
  have h0 : (y 0).val < 16384 := (y 0).isLt
  have h1 : (y 1).val < 5120 := (y 1).isLt
  rw [val_main_v291_apply, val_main_v290_apply, Ideal.truncf_def, val_main_v16_apply]
  refine (p_at x0 x1 x2 _ rfl rfl rfl).trans (congrArg₂ (pP _ _ _) ?_ ?_)
  · show 2048 * (((y 0).val * 5120 + (y 1).val) / 10485760) + ((y 0).val * 5120 + (y 1).val) / 5120 % 2048 = _
    omega
  · show ((y 0).val * 5120 + (y 1).val) % 5120 = _
    omega

/-! ## The gates -/

theorem gate_at (i : S8x2048x8.Idx) {a b e : ℕ} (ha : (i 0).val = a) (hb : (i 1).val = b) (he : (i 2).val = e) :
    val_main_v289 (F := Ideal) x0 x1 x2 x3 i = pGate (at2 (rowX x0)) (at2 (n := 1) (m := 1024) x1) (at2 (rowW x2)) (at2 (rowBg x3)) e (2048 * a + b) := by
  have h2 : (i 2).val < 8 := (i 2).isLt
  have hm : ∀ e T, pP (at2 (rowX x0)) (at2 (n := 1) (m := 1024) x1) (at2 (rowW x2)) T e = mmv (at2 (rowW x2)) (pU (at2 (rowX x0)) (at2 (n := 1) (m := 1024) x1)) e T :=
    fun e T => by unfold pP mmv; exact Finset.sum_congr rfl fun d _ => mul_comm _ _
  unfold val_main_v289 pGate
  rw [← hm]
  by_cases h : (i 2).val < 4
  · refine (concatenate_pair_apply_left 2 _ _ concatenates_S8x2048x4_S8x2048x4_S8x2048x8_d2 i rfl (ValueIdx.ix3 (n0 := 8) (n1 := 2048) (n2 := 4) (i 0) (i 1) ⟨(i 2).val, h⟩)
      (fun k => by match k with | ⟨0, _⟩ => rfl | ⟨1, _⟩ => rfl | ⟨2, _⟩ => rfl)).trans ?_
    rw [val_main_v26_apply, val_main_v17_apply, val_main_v25_apply, val_main_v24_apply, val_main_v23_apply, val_main_v22_apply]
    exact congrArg₂ (· + ·) (p_at x0 x1 x2 _ ha hb (show 5120 + (i 2).val = _ by omega)) (bg_at x3 _ (show (i 2).val % 4 = e by omega))
  · refine (concatenate_pair_apply_right 2 _ _ concatenates_S8x2048x4_S8x2048x4_S8x2048x8_d2 i rfl rfl (ValueIdx.ix3 (n0 := 8) (n1 := 2048) (n2 := 4) (i 0) (i 1) ⟨(i 2).val - 4, by omega⟩)
      (fun k hk => by match k with | ⟨0, _⟩ => rfl | ⟨1, _⟩ => rfl | ⟨2, _⟩ => exact absurd rfl hk) (show (i 2).val - 4 + 4 = (i 2).val by omega)).trans ?_
    rw [val_main_v31_apply, val_main_v18_apply, val_main_v30_apply, val_main_v29_apply, val_main_v28_apply, val_main_v27_apply]
    exact congrArg₂ (· + ·) (p_at x0 x1 x2 _ ha hb (show 5124 + ((i 2).val - 4) = _ by omega)) (bg_at x3 _ (show 4 + ((i 2).val - 4) % 4 = e by omega))

/-- The gates' result. -/
theorem res_G (y : S8x16384.Idx) : val_main_v293 (F := Ideal) x0 x1 x2 x3 y
    = pGate (at2 (rowX x0)) (at2 (n := 1) (m := 1024) x1) (at2 (rowW x2)) (at2 (rowBg x3)) (y 0).val (y 1).val := by
  have h0 : (y 0).val < 8 := (y 0).isLt
  have h1 : (y 1).val < 16384 := (y 1).isLt
  rw [val_main_v293_apply, val_main_v292_apply]
  refine (gate_at x0 x1 x2 x3 _ rfl rfl rfl).trans (congrArg₂ (pGate _ _ _ _) ?_ ?_)
  · show ((y 1).val * 8 + (y 0).val) % 8 = _
    omega
  · show 2048 * (((y 1).val * 8 + (y 0).val) / 16384) + ((y 1).val * 8 + (y 0).val) / 8 % 2048 = _
    omega

/-! ## The convolution -/

/-- The gated linear unit at an index. -/
theorem glu_at (i : S8x2048x1024.Idx) {a b l : ℕ} (ha : (i 0).val = a) (hb : (i 1).val = b) (hl : (i 2).val = l) :
    val_main_v38 (F := Ideal) x0 x1 x2 i = pGlu (at2 (rowX x0)) (at2 (n := 1) (m := 1024) x1) (at2 (rowW x2)) (2048 * a + b) l := by
  rw [val_main_v38_apply, val_main_v37_apply, val_main_v36_apply, val_main_v35_apply, val_main_v34_apply, val_main_v33_apply, val_main_v32_apply,
    val_main_v19_apply, val_main_v20_apply, val_main_cst_2_apply, val_main_cst_3_apply]
  rw [p_at x0 x1 x2 (idx_main_v19 i) ha hb (show 5128 + (i 2).val = 5128 + l by omega),
    p_at x0 x1 x2 (idx_main_v20 i) ha hb (show 6152 + (i 2).val = 5128 + (1024 + l) by omega), Ideal.ofBits_def, one_eq]
  exact gluv_eq _ _

/-- The padded activations at an index: thirty rows of zero, then the rows. -/
theorem pad_at (i : S8x2078x1024.Idx) {a b l : ℕ} (ha : (i 0).val = a) (hb : (i 1).val = b) (hl : (i 2).val = l) :
    val_main_v39 (F := Ideal) x0 x1 x2 i
      = if b < 30 then 0 else pGlu (at2 (rowX x0)) (at2 (n := 1) (m := 1024) x1) (at2 (rowW x2)) (2048 * a + b - 30) l := by
  have h0 : (i 0).val < 8 := (i 0).isLt
  have h1 : (i 1).val < 2078 := (i 1).isLt
  have h2 : (i 2).val < 1024 := (i 2).isLt
  unfold val_main_v39 pad
  by_cases h : b < 30
  · rw [if_pos h, dif_neg fun hin => absurd (hin 1).1 (show ¬ 30 ≤ (i 1).val by omega), val_main_call0_v0_apply, val_main_c_apply]
    show (((0#32 : BitVec 32).toInt : ℝ) : EReal) = 0
    simp
  · rw [if_neg h, dif_pos fun k => by
      match k with
      | ⟨0, _⟩ => show 0 ≤ (i 0).val ∧ ((i 0).val - 0) % (0 + 1) = 0 ∧ ((i 0).val - 0) / (0 + 1) < 8; omega
      | ⟨1, _⟩ => show 30 ≤ (i 1).val ∧ ((i 1).val - 30) % (0 + 1) = 0 ∧ ((i 1).val - 30) / (0 + 1) < 2048; omega
      | ⟨2, _⟩ => show 0 ≤ (i 2).val ∧ ((i 2).val - 0) % (0 + 1) = 0 ∧ ((i 2).val - 0) / (0 + 1) < 1024; omega]
    refine (glu_at x0 x1 x2 _ (a := a) (b := b - 30) (l := l) ?_ ?_ ?_).trans (congrArg (pGlu _ _ _ · l) (by omega))
    · show ((i 0).val - 0) / (0 + 1) = a; omega
    · show ((i 1).val - 30) / (0 + 1) = b - 30; omega
    · show ((i 2).val - 0) / (0 + 1) = l; omega

theorem slices_rows : ∀ o : Fin 31, S8x2078x1024.Slices ![0, o.val, 0] S8x2048x1024 := by decide
theorem slices_tap : ∀ o : Fin 31, S1x31x1024.Slices ![0, o.val, 0] S1x1x1024 := by decide

/-- A tap: the rows from the tap's offset, times the tap's weights. -/
def tapR (o : Fin 31) : FVec Ideal S8x2048x1024 .f32 :=
  mulf (extractStridedSlice S8x2048x1024 ![0, o.val, 0] (val_main_v39 (F := Ideal) x0 x1 x2) (slices_rows o))
    (broadcastInDim S8x2048x1024 ![0, 1, 2] bcast_S1x1x1024_S8x2048x1024_0_1_2
      (broadcastInDim S1x1x1024 ![2] bcast_S1024_S1x1x1024_2
        (shapeCast S1024 (extractStridedSlice S1x1x1024 ![0, o.val, 0] x4 (slices_tap o)) shapeCasts_S1x1x1024_S1024)))

theorem tapR_at (o : Fin 31) (i : S8x2048x1024.Idx) {a b l : ℕ} (ha : (i 0).val = a) (hb : (i 1).val = b) (hl : (i 2).val = l) :
    tapR x0 x1 x2 x4 o i = at2 (rowCw x4) o.val l
      * (if (2048 * a + b) % 2048 + o.val < 30 then 0 else pGlu (at2 (rowX x0)) (at2 (n := 1) (m := 1024) x1) (at2 (rowW x2)) (2048 * a + b + o.val - 30) l) := by
  have h1 : (i 1).val < 2048 := (i 1).isLt
  have h2 : (i 2).val < 1024 := (i 2).isLt
  have ho := o.isLt
  refine (congrArg₂ (· * ·) ?_ ?_).trans (mul_comm _ _)
  · refine (extractStridedSlice_apply _ _ (slices_rows o) i (ValueIdx.ix3 (n0 := 8) (n1 := 2078) (n2 := 1024) (i 0) ⟨o.val + (i 1).val, by omega⟩ (i 2)) (fun k => ?_)).trans
      ((pad_at x0 x1 x2 _ ha rfl hl).trans ?_)
    · match k with
      | ⟨0, _⟩ => show (i 0).val = 0 + (i 0).val; omega
      | ⟨1, _⟩ => rfl
      | ⟨2, _⟩ => show (i 2).val = 0 + (i 2).val; omega
    · show (if o.val + (i 1).val < 30 then 0 else _) = _
      have e : (2048 * a + b) % 2048 + o.val = o.val + (i 1).val := by omega
      rw [e]
      exact congrArg (fun T => if o.val + (i 1).val < 30 then 0 else pGlu _ _ _ T l) (by show 2048 * a + (o.val + (i 1).val) - 30 = _; omega)
  · refine (broadcastInDim_apply _ bcast_S1x1x1024_S8x2048x1024_0_1_2 _ i (idx_main_v44 i) (fun k => ?_)).trans
      ((broadcastInDim_apply _ bcast_S1024_S1x1x1024_2 _ _ (ix1 (n := 1024) (i 2)) (fun k => ?_)).trans
      ((shapeCast_apply _ shapeCasts_S1x1x1024_S1024 _ (ValueIdx.ix3 (n0 := 1) (n1 := 1) (n2 := 1024) 0 0 (i 2)) ?_).trans
      ((extractStridedSlice_apply _ _ (slices_tap o) _ (ValueIdx.ix3 (n0 := 1) (n1 := 31) (n2 := 1024) 0 o (i 2)) (fun k => ?_)).trans (cw_at x4 _ rfl hl))))
    · match k with
      | ⟨0, _⟩ => exact (if_pos rfl).symm
      | ⟨1, _⟩ => exact (if_pos rfl).symm
      | ⟨2, _⟩ => exact (if_neg (show ¬ (1024 : ℕ) = 1 by decide)).symm
    · match k with
      | ⟨0, _⟩ => exact (if_neg (show ¬ (1024 : ℕ) = 1 by decide)).symm
    · rewrite [Shape.rowMajor_val_three, Shape.rowMajor_val_one]
      show (0 * 1 + 0) * 1024 + (i 2).val = (i 2).val
      omega
    · match k with
      | ⟨0, _⟩ => rfl
      | ⟨1, _⟩ => rfl
      | ⟨2, _⟩ => show (i 2).val = 0 + (i 2).val; omega

/-- The first taps, summed in order. -/
def acc : ℕ → FVec Ideal S8x2048x1024 .f32
  | 0 => val_main_v46 (F := Ideal)
  | n + 1 => addf (acc n) (if h : n < 31 then tapR x0 x1 x2 x4 ⟨n, h⟩ else acc n)

theorem acc_all : val_main_v257 (F := Ideal) x0 x1 x2 x4 = acc x0 x1 x2 x4 31 := rfl

theorem acc_at (i : S8x2048x1024.Idx) {a b l : ℕ} (ha : (i 0).val = a) (hb : (i 1).val = b) (hl : (i 2).val = l) : ∀ n : ℕ, n ≤ 31 →
    acc x0 x1 x2 x4 n i = ∑ j ∈ Finset.range n, at2 (rowCw x4) j l
      * (if (2048 * a + b) % 2048 + j < 30 then 0 else pGlu (at2 (rowX x0)) (at2 (n := 1) (m := 1024) x1) (at2 (rowW x2)) (2048 * a + b + j - 30) l)
  | 0, _ => by
    rw [Finset.sum_range_zero]
    show val_main_v46 (F := Ideal) i = 0
    rw [val_main_v46_apply, val_main_cst_4_apply, Ideal.ofBits_def, Ideal.ofBits_zero_f32]
  | n + 1, h => by
    rw [Finset.sum_range_succ, ← acc_at i ha hb hl n (by omega)]
    have hn : n < 31 := h
    refine congrArg (acc x0 x1 x2 x4 n i + ·) ?_
    rw [dif_pos hn]
    exact tapR_at x0 x1 x2 x4 ⟨n, hn⟩ i ha hb hl

/-- The convolution at an index. -/
theorem conv_at (i : S8x2048x1024.Idx) {a b l : ℕ} (ha : (i 0).val = a) (hb : (i 1).val = b) (hl : (i 2).val = l) :
    val_main_v261 (F := Ideal) x0 x1 x2 x4 x5 i = pConv (at2 (rowX x0)) (at2 (n := 1) (m := 1024) x1) (at2 (rowW x2)) (at2 (rowCw x4)) (at2 (n := 1) (m := 1024) x5) (2048 * a + b) l := by
  have h2 : (i 2).val < 1024 := (i 2).isLt
  rw [val_main_v261_apply, val_main_v260_apply, val_main_v259_apply, val_main_v258_apply, acc_all, acc_at x0 x1 x2 x4 i ha hb hl 31 le_rfl, Finset.sum_range]
  exact congrArg (_ + ·) (row_at x5 _ (show (i 2).val % 1024 = l by omega))

/-! ## The layer norm and the product -/

theorem mean_at (i : S8x2048x1.Idx) {a b : ℕ} (ha : (i 0).val = a) (hb : (i 1).val = b) : val_main_v267 (F := Ideal) x0 x1 x2 x4 x5 i
      = meanv (pConv (at2 (rowX x0)) (at2 (n := 1) (m := 1024) x1) (at2 (rowW x2)) (at2 (rowCw x4)) (at2 (n := 1) (m := 1024) x5) (2048 * a + b)) := by
  rw [val_main_v267_apply, val_main_v265_apply, val_main_v264_apply, val_main_v266_apply, val_main_cst_5_apply, val_main_cst_6_apply,
    Ideal.ofBits_def, Ideal.ofBits_zero_f32, zero_add]
  exact congrArg (Ideal.div · n1024) (Finset.sum_congr rfl fun k _ => conv_at x0 x1 x2 x4 x5 _ ha hb rfl)

theorem cen_at (i : S8x2048x1024.Idx) {a b l : ℕ} (ha : (i 0).val = a) (hb : (i 1).val = b) (hl : (i 2).val = l) : val_main_v269 (F := Ideal) x0 x1 x2 x4 x5 i
      = cenv (pConv (at2 (rowX x0)) (at2 (n := 1) (m := 1024) x1) (at2 (rowW x2)) (at2 (rowCw x4)) (at2 (n := 1) (m := 1024) x5) (2048 * a + b)) l := by
  rw [val_main_v269_apply, val_main_v268_apply, conv_at x0 x1 x2 x4 x5 i ha hb hl, mean_at x0 x1 x2 x4 x5 _ ha hb]
  rfl

theorem ln_at (i : S8x2048x1024.Idx) {a b l : ℕ} (ha : (i 0).val = a) (hb : (i 1).val = b) (hl : (i 2).val = l) :
    val_main_v285 (F := Ideal) x0 x1 x2 x4 x5 x6 x7 i
      = pLn (at2 (rowX x0)) (at2 (n := 1) (m := 1024) x1) (at2 (rowW x2)) (at2 (rowCw x4)) (at2 (n := 1) (m := 1024) x5)
        (at2 (n := 1) (m := 1024) x6) (at2 (n := 1) (m := 1024) x7) (2048 * a + b) l := by
  have h2 : (i 2).val < 1024 := (i 2).isLt
  rw [val_main_v285_apply, val_main_v282_apply, val_main_v279_apply, val_main_v278_apply, val_main_v277_apply, val_main_v276_apply,
    val_main_v274_apply, val_main_v272_apply, val_main_v271_apply, val_main_v275_apply, val_main_v273_apply, val_main_v281_apply,
    val_main_v280_apply, val_main_v262_apply, val_main_v284_apply, val_main_v283_apply, val_main_v263_apply, val_main_cst_7_apply,
    val_main_cst_8_apply, val_main_cst_9_apply, cen_at x0 x1 x2 x4 x5 i ha hb hl]
  unfold pLn lnv
  rw [Ideal.ofBits_def, Ideal.ofBits_zero_f32, zero_add]
  refine congrArg₂ (· + ·) (congrArg₂ (· * ·) (congrArg (_ * ·) (congrArg (fun s => Ideal.rsqrt (Ideal.div s n1024 + eps)) (Finset.sum_congr rfl fun k _ => ?_)))
    (row_at x6 _ (show (i 2).val % 1024 = l by omega))) (row_at x7 _ (show (i 2).val % 1024 = l by omega))
  have e := cen_at x0 x1 x2 x4 x5 (idx_main_v271 (idx_main_v272 (idx_main_v278 i)) k) ha hb rfl
  rw [val_main_v270_apply]
  exact congrArg₂ (· * ·) e e

/-- The convolution module's result. -/
theorem res_C (y : S16384x1024.Idx) : val_main_v295 (F := Ideal) x0 x1 x2 x4 x5 x6 x7 y
    = swish (pLn (at2 (rowX x0)) (at2 (n := 1) (m := 1024) x1) (at2 (rowW x2)) (at2 (rowCw x4)) (at2 (n := 1) (m := 1024) x5)
        (at2 (n := 1) (m := 1024) x6) (at2 (n := 1) (m := 1024) x7) (y 0).val (y 1).val)
      * swish (pZ (at2 (rowX x0)) (at2 (n := 1) (m := 1024) x1) (at2 (rowW x2)) (y 0).val (y 1).val) := by
  have h0 : (y 0).val < 16384 := (y 0).isLt
  have h1 : (y 1).val < 1024 := (y 1).isLt
  have hb : ((idx_main_v295 y) 1).val = (y 0).val % 2048 := by
    show ((y 0).val * 1024 + (y 1).val) / 1024 % 2048 = _
    omega
  have ha : ((idx_main_v295 y) 0).val = (y 0).val / 2048 := by
    show ((y 0).val * 1024 + (y 1).val) / 2097152 = _
    omega
  have hl : ((idx_main_v295 y) 2).val = (y 1).val := by
    show ((y 0).val * 1024 + (y 1).val) % 1024 = _
    omega
  rw [val_main_v295_apply]
  generalize idx_main_v295 y = i at ha hb hl
  rw [val_main_v294_apply, Ideal.truncf_def, val_main_v288_apply, val_main_v286_apply, val_main_v287_apply,
    val_main_call1_v5_apply, val_main_call1_v4_apply, val_main_call1_v3_apply, val_main_call1_v2_apply, val_main_call1_v1_apply, val_main_call1_v0_apply,
    val_main_call2_v5_apply, val_main_call2_v4_apply, val_main_call2_v3_apply, val_main_call2_v2_apply, val_main_call2_v1_apply, val_main_call2_v0_apply,
    val_main_call1_cst_apply, val_main_call1_cst_0_apply, val_main_call2_cst_apply, val_main_call2_cst_0_apply, Ideal.ofBits_def, one_eq,
    ln_at x0 x1 x2 x4 x5 x6 x7 i ha hb hl, val_main_v21_apply, p_at x0 x1 x2 (idx_main_v21 i) ha hb (show 7176 + (i 2).val = 5128 + (2048 + (y 1).val) by omega)]
  have e : 2048 * ((y 0).val / 2048) + (y 0).val % 2048 = (y 0).val := by omega
  rw [e]
  rfl

end Cert.ReferenceIdeal.Value

end
-- ==== Proof.Value.Ends.lean ====
/-
  The end of the idealized kernel's run: its three arrays and its arguments.
-/
import proofs.«01_k».proof.Proof.Value.Arr

noncomputable section

namespace Cert.KernelIdeal.Value

open Cert.KernelIdeal Cert.KernelIdeal.Gen Cert.KernelIdeal.Body
open Idealize.ShloMosaic Idealize.ShloMosaic.TcCoe
open Idealize.SL Idealize.SL.Sem

variable (m : (ℓ : Loc nD τ sig) → Buf (Elt Ideal) ℓ)

/-- The idealized kernel ends with the three arrays and its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v14_0) = outP m c
      ∧ r.2.mem ((c.tc : Thread nD τ).loc main_v14_1) = outG m c
      ∧ r.2.mem ((c.tc : Thread nD τ).loc main_v14_2) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have keep (b : Ref sig .tc) (hb : b ∈ Pipeline.restRefs sig spec0) := (h.1 c).2 b hb
    ⟨((h.1 c).1 10).trans (final_P m c), ((h.1 c).1 11).trans (final_G m c), ((h.1 c).1 12).trans (final_C m c),
      (keep main_arg0 (Pipeline.mem_restRefs_of main_arg0 (by decide) (by decide))).trans (V_main_arg0 m c),
      (keep main_arg1 (Pipeline.mem_restRefs_of main_arg1 (by decide) (by decide))).trans (V_main_arg1 m c),
      (keep main_arg2 (Pipeline.mem_restRefs_of main_arg2 (by decide) (by decide))).trans (V_main_arg2 m c),
      (keep main_arg3 (Pipeline.mem_restRefs_of main_arg3 (by decide) (by decide))).trans (V_main_arg3 m c),
      (keep main_arg4 (Pipeline.mem_restRefs_of main_arg4 (by decide) (by decide))).trans (V_main_arg4 m c),
      (keep main_arg5 (Pipeline.mem_restRefs_of main_arg5 (by decide) (by decide))).trans (V_main_arg5 m c),
      (keep main_arg6 (Pipeline.mem_restRefs_of main_arg6 (by decide) (by decide))).trans (V_main_arg6 m c),
      (keep main_arg7 (Pipeline.mem_restRefs_of main_arg7 (by decide) (by decide))).trans (V_main_arg7 m c)⟩) (run_ex m ρ)

end Cert.KernelIdeal.Value

end
-- ==== Proof.Value.lean ====
/-
  The value claim: from finite arguments the idealized kernel and the reference end with equal results.
-/
import proofs.«01_k».proof.Defs
import proofs.«01_k».proof.Proof.Value.Ref
import proofs.«01_k».proof.Proof.Value.Ends
import proofs.«01_k».proof.Proof.Gen.Pre_finite

noncomputable section

namespace Cert.Value

open Cert.KernelIdeal.Value
open Cert.ReferenceIdeal.Value (pU pP pGate pGlu pConv pLn pZ swish res_P res_G res_C)
open Idealize.ShloMosaic Idealize.ShloMosaic.TcCoe Idealize.ShloMosaic.ValueIdx
open Idealize.SL.Sem
open Idealize.ShloMosaic.StableHlo (launchContents)

/-! ## Finite arguments are real -/

theorem inf_eq : Ideal.ofBits .f32 0x7F800000#32 = (⊤ : EReal) := by
  simp [Ideal.ofBits, Ideal.ieee]

theorem isR_of_finite {x : EReal} (h : Ideal.cmp .olt (max x (-x)) (Ideal.ofBits .f32 0x7F800000#32) = 1#1) : IsR x := by
  rw [inf_eq] at h
  induction x with
  | bot => simp [Ideal.cmp] at h
  | top => simp [Ideal.cmp] at h
  | coe r => exact ⟨r, rfl⟩

theorem isR_at2 {n k : ℕ} {X : (⟨2, ![n, k]⟩ : Shape).Idx → EReal} (h : ∀ y, IsR (X y)) (p l : ℕ) : IsR (at2 X p l) := by
  unfold at2
  split
  · exact h _
  · exact isR_zero

section Real
variable {X G W Cw Cb Lg Lb : ℕ → ℕ → EReal}

theorem isR_pP (hX : ∀ p l, IsR (X p l)) (hG : ∀ p l, IsR (G p l)) (hW : ∀ p l, IsR (W p l)) (T e : ℕ) : IsR (pP X G W T e) :=
  isR_mmv (fun d => isR_rmsv (fun k => hX T k) (fun k => hG 0 k) d) fun d => hW e d

theorem isR_pLn (hX : ∀ p l, IsR (X p l)) (hG : ∀ p l, IsR (G p l)) (hW : ∀ p l, IsR (W p l)) (hCw : ∀ p l, IsR (Cw p l)) (hCb : ∀ p l, IsR (Cb p l))
    (hLg : ∀ p l, IsR (Lg p l)) (hLb : ∀ p l, IsR (Lb p l)) (T l : ℕ) : IsR (pLn X G W Cw Cb Lg Lb T l) := by
  refine isR_lnv (fun k => IsR.add (IsR.sum fun j => (hCw j.val k).mul ?_) (hCb 0 k)) (fun k => hLg 0 k) (fun k => hLb 0 k) l
  split
  · exact isR_zero
  · exact isR_gluv (isR_pP hX hG hW _ _) (isR_pP hX hG hW _ _)

end Real

/-! ## The kernel's arrays in the arguments -/

section Kernel
variable (m : (ℓ : Loc Cert.KernelIdeal.nD Cert.KernelIdeal.τ Cert.KernelIdeal.sig) → Buf (Elt Ideal) ℓ)
open Cert.KernelIdeal

theorem aX_eq (c : Dev nD) : aX m c = at2 (rowX (m ((c.tc : Thread nD τ).loc main_arg0))) :=
  funext fun p => funext fun l => congrArg (fun Y => at2 (n := 16384) (m := 1024) Y p l) (entry_X m c)
theorem aG_eq (c : Dev nD) : aG m c = at2 (n := 1) (m := 1024) (m ((c.tc : Thread nD τ).loc main_arg1)) :=
  funext fun p => funext fun l => congrArg (fun Y => at2 (n := 1) (m := 1024) Y p l) (entry_G m c)
theorem aW_eq (c : Dev nD) : aW m c = at2 (rowW (m ((c.tc : Thread nD τ).loc main_arg2))) :=
  funext fun p => funext fun l => congrArg (fun Y => at2 (n := 8200) (m := 1024) Y p l) (entry_W m c)
theorem aBg_eq (c : Dev nD) : aBg m c = at2 (rowBg (m ((c.tc : Thread nD τ).loc main_arg3))) :=
  funext fun p => funext fun l => congrArg (fun Y => at2 (n := 8) (m := 1) Y p l) (entry_Bg m c)
theorem aCw_eq (c : Dev nD) : aCw m c = at2 (rowCw (m ((c.tc : Thread nD τ).loc main_arg4))) :=
  funext fun p => funext fun l => congrArg (fun Y => at2 (n := 31) (m := 1024) Y p l) (entry_Cw m c)
theorem aCb_eq (c : Dev nD) : aCb m c = at2 (n := 1) (m := 1024) (m ((c.tc : Thread nD τ).loc main_arg5)) :=
  funext fun p => funext fun l => congrArg (fun Y => at2 (n := 1) (m := 1024) Y p l) (entry_Cb m c)
theorem aLg_eq (c : Dev nD) : aLg m c = at2 (n := 1) (m := 1024) (m ((c.tc : Thread nD τ).loc main_arg6)) :=
  funext fun p => funext fun l => congrArg (fun Y => at2 (n := 1) (m := 1024) Y p l) (entry_Lg m c)
theorem aLb_eq (c : Dev nD) : aLb m c = at2 (n := 1) (m := 1024) (m ((c.tc : Thread nD τ).loc main_arg7)) :=
  funext fun p => funext fun l => congrArg (fun Y => at2 (n := 1) (m := 1024) Y p l) (entry_Lb m c)

theorem vP_eq (c : Dev nD) (T e : ℕ) : vP m c T e = pP (aX m c) (aG m c) (aW m c) T e := rfl
theorem vGate_eq (c : Dev nD) (e T : ℕ) : vGate m c e T = pGate (aX m c) (aG m c) (aW m c) (aBg m c) e T := rfl
theorem vC_eq (c : Dev nD) (T l : ℕ) : vC m c T l
    = siluv (pLn (aX m c) (aG m c) (aW m c) (aCw m c) (aCb m c) (aLg m c) (aLb m c) T l) * siluv (pZ (aX m c) (aG m c) (aW m c) T l) := rfl

end Kernel

/-! ## The claim -/

theorem algebraic : Cert.algebraic_KernelIdeal_ReferenceIdeal_pre_finite := by
  intro m g m' g' hpre hagree
  refine ⟨outP m, outG m, outC m, kernel_run m g, (θ_run _ _ _).mono (fun r h c => ?_) (Cert.ReferenceIdeal.Value.run (F := Ideal) m' g')⟩
  obtain ⟨r0, r1, r2, rest⟩ := h c
  obtain ⟨e0, e1, e2, e3, e4, e5, e6, e7⟩ := hagree c
  obtain ⟨p0, p1, p2, p4, p5, p6, p7⟩ := hpre c
  refine ⟨r0.trans ?_, r1.trans ?_, r2.trans ?_, rest⟩
  · refine (Cert.ReferenceIdeal.Read.val_main_v291_eq (F := Ideal) (launchContents m' c)).trans (funext fun y => (res_P _ _ _ y).trans ?_)
    show _ = vP m c _ _
    rw [vP_eq, aX_eq, aG_eq, aW_eq, ← e0, ← e1, ← e2]
  · refine (Cert.ReferenceIdeal.Read.val_main_v293_eq (F := Ideal) (launchContents m' c)).trans (funext fun y => (res_G _ _ _ _ y).trans ?_)
    show _ = vGate m c _ _
    rw [vGate_eq, aX_eq, aG_eq, aW_eq, aBg_eq, ← e0, ← e1, ← e2, ← e3]
  · refine (Cert.ReferenceIdeal.Read.val_main_v295_eq (F := Ideal) (launchContents m' c)).trans (funext fun y => (res_C _ _ _ _ _ _ _ y).trans ?_)
    have hX : ∀ p l, IsR (aX m c p l) := by rw [aX_eq]; exact isR_at2 fun y => isR_of_finite (congrFun p0 _)
    have hG : ∀ p l, IsR (aG m c p l) := by rw [aG_eq]; exact isR_at2 fun y => isR_of_finite (congrFun p1 _)
    have hW : ∀ p l, IsR (aW m c p l) := by rw [aW_eq]; exact isR_at2 fun y => isR_of_finite (congrFun p2 _)
    have hCw : ∀ p l, IsR (aCw m c p l) := by rw [aCw_eq]; exact isR_at2 fun y => isR_of_finite (congrFun p4 _)
    have hCb : ∀ p l, IsR (aCb m c p l) := by rw [aCb_eq]; exact isR_at2 fun y => isR_of_finite (congrFun p5 _)
    have hLg : ∀ p l, IsR (aLg m c p l) := by rw [aLg_eq]; exact isR_at2 fun y => isR_of_finite (congrFun p6 _)
    have hLb : ∀ p l, IsR (aLb m c p l) := by rw [aLb_eq]; exact isR_at2 fun y => isR_of_finite (congrFun p7 _)
    have hZ (T l : ℕ) : IsR (pZ (aX m c) (aG m c) (aW m c) T l) := isR_pP hX hG hW _ _
    show _ = vC m c _ _
    rw [vC_eq, ← siluv_eq (isR_pLn hX hG hW hCw hCb hLg hLb _ _), ← siluv_eq (hZ _ _),
      aX_eq, aG_eq, aW_eq, aCw_eq, aCb_eq, aLg_eq, aLb_eq, ← e0, ← e1, ← e2, ← e4, ← e5, ← e6, ← e7]
    rfl

end Cert.Value

end
-- ==== Proof.Kernel2Ideal.Body.lean ====
/-
  The body of the second call run once at symbolic operands; what it leaves in the buffers it writes is found by the run.
-/
import proofs.«01_k».proof.Proof.Gen.Kernel2Ideal.Skeleton
import proofs.«01_k».proof.Proof.Gen.Kernel2Ideal.Frame
import Idealize.ShloMosaic.Lib.Tactic
import Idealize.ShloMosaic.Lib.Pipeline.Kit

noncomputable section

namespace Cert.Kernel2Ideal.Body

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The contents of memref `M`'s buffer on core `c`, -/
abbrev Bf (c : Dev nD) {sp : Space} {S : Shape} {e : EltTy} (M : Memref sig .tc sp S e) : Type := Buf (Elt F) (M.view.loc (c : Thread nD τ))
/-- and that buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The contents of the eight buffers the body writes: the result, the memory, its normaliser, two tiles of the mLSTM's
    output, the gates' rows, the gates' columns, the stabilisers, the scores. -/
abbrev St (c : Dev nD) (M16 : Memref sig .tc .vmem S256x1024 .f32) (M17 : Memref sig .tc .vmem S4x256x256 .f32) (M18 : Memref sig .tc .vmem S8x256 .f32) (M19 : Memref sig .tc .vmem S2x256x1024 .bf16) (M20 : Memref sig .tc .vmem S8x256 .f32) (M21 : Memref sig .tc .vmem S256x128 .f32) (M22 : Memref sig .tc .vmem S2x8x128 .f32) (M23 : Memref sig .tc .vmem S4x256x256 .f32) : Type :=
  Bf (F := F) c M16 × Bf (F := F) c M17 × Bf (F := F) c M18 × Bf (F := F) c M19 × Bf (F := F) c M20 × Bf (F := F) c M21 × Bf (F := F) c M22 × Bf (F := F) c M23

/-- The buffers of a point, held whole: the fifteen it only reads at `f·`, the eight it writes at `s`. -/
abbrev Pts (c : Dev nD) (M1 : Memref sig .tc .vmem S256x1024 .bf16) (M2 : Memref sig .tc .vmem S256x1024 .bf16) (M3 : Memref sig .tc .vmem S256x1024 .bf16) (M4 : Memref sig .tc .vmem S256x1024 .bf16) (M5 : Memref sig .tc .vmem S256x1024 .bf16) (M6 : Memref sig .tc .vmem S8x256 .f32) (M7 : Memref sig .tc .vmem S256x1024 .bf16) (M8 : Memref sig .tc .vmem S256x1024 .bf16) (M9 : Memref sig .tc .vmem S8x256 .f32) (M10 : Memref sig .tc .vmem S1x1024 .f32) (M11 : Memref sig .tc .vmem S256x1024 .f32) (M12 : Memref sig .tc .vmem S256x1024 .bf16) (M13 : Memref sig .tc .vmem S1024x1024 .bf16) (M14 : Memref sig .tc .vmem S1024x1024 .bf16) (M15 : Memref sig .tc .vmem S1x1024 .f32) (M16 : Memref sig .tc .vmem S256x1024 .f32) (M17 : Memref sig .tc .vmem S4x256x256 .f32) (M18 : Memref sig .tc .vmem S8x256 .f32) (M19 : Memref sig .tc .vmem S2x256x1024 .bf16) (M20 : Memref sig .tc .vmem S8x256 .f32) (M21 : Memref sig .tc .vmem S256x128 .f32) (M22 : Memref sig .tc .vmem S2x8x128 .f32) (M23 : Memref sig .tc .vmem S4x256x256 .f32) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (s : St (F := F) c M16 M17 M18 M19 M20 M21 M22 M23) : sProp 𝕄 :=
  iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 s.1 ∗ pt c M17 s.2.1 ∗ pt c M18 s.2.2.1 ∗ pt c M19 s.2.2.2.1 ∗ pt c M20 s.2.2.2.2.1 ∗ pt c M21 s.2.2.2.2.2.1 ∗ pt c M22 s.2.2.2.2.2.2.1 ∗ pt c M23 s.2.2.2.2.2.2.2)

/-- The two tiles of the buffer of mLSTM outputs take turns: at point `i` the body writes tile `i % 2`, by heads, and reads
    the other one. -/
instance (i : grid0.Coords) : ClosedOff (k0_off1 i) :=
  ⟨![1 - (i 0).val % 2, 0, 0], (by decide +kernel : ∀ i : grid0.Coords, k0_off1 i = ![1 - (i 0).val % 2, 0, 0]) i⟩
instance (i : grid0.Coords) : ClosedOff (k0_off2 i) :=
  ⟨![(i 0).val % 2, 0, 0], (by decide +kernel : ∀ i : grid0.Coords, k0_off2 i = ![(i 0).val % 2, 0, 0]) i⟩
instance (i : grid0.Coords) : ClosedOff (k0_off3 i) :=
  ⟨![(i 0).val % 2, 0, 256], (by decide +kernel : ∀ i : grid0.Coords, k0_off3 i = ![(i 0).val % 2, 0, 256]) i⟩
instance (i : grid0.Coords) : ClosedOff (k0_off4 i) :=
  ⟨![(i 0).val % 2, 0, 512], (by decide +kernel : ∀ i : grid0.Coords, k0_off4 i = ![(i 0).val % 2, 0, 512]) i⟩
instance (i : grid0.Coords) : ClosedOff (k0_off5 i) :=
  ⟨![(i 0).val % 2, 0, 768], (by decide +kernel : ∀ i : grid0.Coords, k0_off5 i = ![(i 0).val % 2, 0, 768]) i⟩

set_option maxHeartbeats 4000000 in
/-- The body: the contents it leaves, with its run. -/
def body (c : Dev nD) (i : grid0.Coords) (M1 : Memref sig .tc .vmem S256x1024 .bf16) (h1 : M1.IsWhole) (M2 : Memref sig .tc .vmem S256x1024 .bf16) (h2 : M2.IsWhole) (M3 : Memref sig .tc .vmem S256x1024 .bf16) (h3 : M3.IsWhole) (M4 : Memref sig .tc .vmem S256x1024 .bf16) (h4 : M4.IsWhole) (M5 : Memref sig .tc .vmem S256x1024 .bf16) (h5 : M5.IsWhole) (M6 : Memref sig .tc .vmem S8x256 .f32) (h6 : M6.IsWhole) (M7 : Memref sig .tc .vmem S256x1024 .bf16) (h7 : M7.IsWhole) (M8 : Memref sig .tc .vmem S256x1024 .bf16) (h8 : M8.IsWhole) (M9 : Memref sig .tc .vmem S8x256 .f32) (h9 : M9.IsWhole) (M10 : Memref sig .tc .vmem S1x1024 .f32) (h10 : M10.IsWhole) (M11 : Memref sig .tc .vmem S256x1024 .f32) (h11 : M11.IsWhole) (M12 : Memref sig .tc .vmem S256x1024 .bf16) (h12 : M12.IsWhole) (M13 : Memref sig .tc .vmem S1024x1024 .bf16) (h13 : M13.IsWhole) (M14 : Memref sig .tc .vmem S1024x1024 .bf16) (h14 : M14.IsWhole) (M15 : Memref sig .tc .vmem S1x1024 .f32) (h15 : M15.IsWhole) (M16 : Memref sig .tc .vmem S256x1024 .f32) (h16 : M16.IsWhole) (M17 : Memref sig .tc .vmem S4x256x256 .f32) (h17 : M17.IsWhole) (M18 : Memref sig .tc .vmem S8x256 .f32) (h18 : M18.IsWhole) (M19 : Memref sig .tc .vmem S2x256x1024 .bf16) (h19 : M19.IsWhole) (M20 : Memref sig .tc .vmem S8x256 .f32) (h20 : M20.IsWhole) (M21 : Memref sig .tc .vmem S256x128 .f32) (h21 : M21.IsWhole) (M22 : Memref sig .tc .vmem S2x8x128 .f32) (h22 : M22.IsWhole) (M23 : Memref sig .tc .vmem S4x256x256 .f32) (h23 : M23.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (s : St (F := F) c M16 M17 M18 M19 M20 M21 M22 M23) :
    { s' : St (F := F) c M16 M17 M18 M19 M20 M21 M22 M23 //
      ∀ (E : Set ℕ) (Q : PUnit → sProp 𝕄),
      iprop(Pts c M1 M2 M3 M4 M5 M6 M7 M8 M9 M10 M11 M12 M13 M14 M15 M16 M17 M18 M19 M20 M21 M22 M23 f1 f2 f3 f4 f5 f6 f7 f8 f9 f10 f11 f12 f13 f14 f15 s ∗ (Pts c M1 M2 M3 M4 M5 M6 M7 M8 M9 M10 M11 M12 M13 M14 M15 M16 M17 M18 M19 M20 M21 M22 M23 f1 f2 f3 f4 f5 f6 f7 f8 f9 f10 f11 f12 f13 f14 f15 s' -∗ Q ⟨⟩))
      ⊢ wp frame (wpE (defs₀ (F := F)) Variants.none (c : Thread nD τ) none) E (cc0_mlstm_out (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) Q } := by
  refine ⟨(?_, ?_, ?_, ?_, ?_, ?_, ?_, ?_), fun E Q => ?run⟩
  case run =>
    rw [cc0_mlstm_out_eq_skeleton]
    unfold cc0_mlstm_out_skel Pts
    dsimp only
    iintro ⟨⟨H1, H2, H3, H4, H5, H6, H7, H8, H9, H10, H11, H12, H13, H14, H15, H16, H17, H18, H19, H20, H21, H22, H23⟩, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The body runs from any contents, to some. -/
theorem body_ends (c : Dev nD) (i : grid0.Coords) (M1 : Memref sig .tc .vmem S256x1024 .bf16) (h1 : M1.IsWhole) (M2 : Memref sig .tc .vmem S256x1024 .bf16) (h2 : M2.IsWhole) (M3 : Memref sig .tc .vmem S256x1024 .bf16) (h3 : M3.IsWhole) (M4 : Memref sig .tc .vmem S256x1024 .bf16) (h4 : M4.IsWhole) (M5 : Memref sig .tc .vmem S256x1024 .bf16) (h5 : M5.IsWhole) (M6 : Memref sig .tc .vmem S8x256 .f32) (h6 : M6.IsWhole) (M7 : Memref sig .tc .vmem S256x1024 .bf16) (h7 : M7.IsWhole) (M8 : Memref sig .tc .vmem S256x1024 .bf16) (h8 : M8.IsWhole) (M9 : Memref sig .tc .vmem S8x256 .f32) (h9 : M9.IsWhole) (M10 : Memref sig .tc .vmem S1x1024 .f32) (h10 : M10.IsWhole) (M11 : Memref sig .tc .vmem S256x1024 .f32) (h11 : M11.IsWhole) (M12 : Memref sig .tc .vmem S256x1024 .bf16) (h12 : M12.IsWhole) (M13 : Memref sig .tc .vmem S1024x1024 .bf16) (h13 : M13.IsWhole) (M14 : Memref sig .tc .vmem S1024x1024 .bf16) (h14 : M14.IsWhole) (M15 : Memref sig .tc .vmem S1x1024 .f32) (h15 : M15.IsWhole) (M16 : Memref sig .tc .vmem S256x1024 .f32) (h16 : M16.IsWhole) (M17 : Memref sig .tc .vmem S4x256x256 .f32) (h17 : M17.IsWhole) (M18 : Memref sig .tc .vmem S8x256 .f32) (h18 : M18.IsWhole) (M19 : Memref sig .tc .vmem S2x256x1024 .bf16) (h19 : M19.IsWhole) (M20 : Memref sig .tc .vmem S8x256 .f32) (h20 : M20.IsWhole) (M21 : Memref sig .tc .vmem S256x128 .f32) (h21 : M21.IsWhole) (M22 : Memref sig .tc .vmem S2x8x128 .f32) (h22 : M22.IsWhole) (M23 : Memref sig .tc .vmem S4x256x256 .f32) (h23 : M23.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (s : St (F := F) c M16 M17 M18 M19 M20 M21 M22 M23) :
    ∃ s' : St (F := F) c M16 M17 M18 M19 M20 M21 M22 M23, ∀ (E : Set ℕ) (Q : PUnit → sProp 𝕄),
      iprop(Pts c M1 M2 M3 M4 M5 M6 M7 M8 M9 M10 M11 M12 M13 M14 M15 M16 M17 M18 M19 M20 M21 M22 M23 f1 f2 f3 f4 f5 f6 f7 f8 f9 f10 f11 f12 f13 f14 f15 s ∗ (Pts c M1 M2 M3 M4 M5 M6 M7 M8 M9 M10 M11 M12 M13 M14 M15 M16 M17 M18 M19 M20 M21 M22 M23 f1 f2 f3 f4 f5 f6 f7 f8 f9 f10 f11 f12 f13 f14 f15 s' -∗ Q ⟨⟩))
      ⊢ wp frame (wpE (defs₀ (F := F)) Variants.none (c : Thread nD τ) none) E (cc0_mlstm_out (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) Q :=
  ⟨(body c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f1 f2 f3 f4 f5 f6 f7 f8 f9 f10 f11 f12 f13 f14 f15 s).1, (body c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f1 f2 f3 f4 f5 f6 f7 f8 f9 f10 f11 f12 f13 f14 f15 s).2⟩

end Cert.Kernel2Ideal.Body

end
-- ==== Proof.Kernel2Ideal.Run.lean ====
/-
  The second call as a whole run: every point's body runs from any contents of the staging buffers and the scratch, so the pipeline
  ends, and the arguments, which the windows only read, are as they were.
-/
import proofs.«01_k».proof.Proof.Kernel2Ideal.Body
import Idealize.ShloMosaic.Lib.Pipeline.Frame
import Idealize.ShloMosaic.Lib.Pipeline.FrameBody

noncomputable section

namespace Cert.Kernel2Ideal.Body

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- A whole memref owned at some contents is its buffer held whole at what reads those. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  obtain rfl := h.eq_unread hf
  iexact H

/-- And back. -/
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns
  rw [h.set_eq_univ]
  iintro H
  iexists f
  isplitr; · ipureintro; rfl
  iexact H

variable (m : (ℓ : Loc nD τ sig) → Buf (Elt F) ℓ) (ρ : Dev nD → PrngReg)

/-- The proof data when nothing is said of what the windows hold: the arrays as the region finds them, the scratch at anything. -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What the body of point `t` is handed, every staging buffer at anything, and what it hands back. -/
def anyPre (c : Dev nD) (t : Fin cfg0.N) : sProp 𝕄 :=
  iprop((datsAny m 0 c).Φ t.castSucc ∗ (datsAny m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
def anyPost (c : Dev nD) (t : Fin cfg0.N) : sProp 𝕄 :=
  iprop((datsAny m 0 c).Φ t.succ ∗ (datsAny m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))

set_option maxHeartbeats 1600000 in
theorem any_body (c : Dev nD) (t : Fin cfg0.N) :
    anyPre m c t ⊢ wp frame (wpE (defs₀ (F := F)) Variants.none (c : Thread nD τ) none) Set.univ (bodyAt0 t) (fun _ => anyPost m c t) := by
  unfold anyPre anyPost bodyAt0
  rw [show (datsAny m 0 c).Φ t.succ = Pipeline.ΦA spec0 c from rfl, show (datsAny m 0 c).Φ t.castSucc = Pipeline.ΦA spec0 c from rfl,
    show (datsAny m 0 c).owesAt () t.succ = (datsAny m 0 c).owesAt () t.castSucc from rfl]
  unfold Pipeline.ΦA
  rw [scopedRest0_eq]
  iintro ⟨⟨⟨⟨%f17, H17⟩, ⟨%f18, H18⟩, ⟨%f19, H19⟩, ⟨%f20, H20⟩, ⟨%f21, H21⟩, ⟨%f22, H22⟩, ⟨%f23, H23⟩⟩, Hg⟩, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨s', hs'⟩ := body_ends (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ((hstage0_0 ((cfg0.slots t 0).cast nbuf0_0)).unread d1) ((hstage0_1 ((cfg0.slots t 1).cast nbuf0_1)).unread d2) ((hstage0_2 ((cfg0.slots t 2).cast nbuf0_2)).unread d3) ((hstage0_3 ((cfg0.slots t 3).cast nbuf0_3)).unread d4) ((hstage0_4 ((cfg0.slots t 4).cast nbuf0_4)).unread d5) ((hstage0_5 ((cfg0.slots t 5).cast nbuf0_5)).unread d6) ((hstage0_6 ((cfg0.slots t 6).cast nbuf0_6)).unread d7) ((hstage0_7 ((cfg0.slots t 7).cast nbuf0_7)).unread d8) ((hstage0_8 ((cfg0.slots t 8).cast nbuf0_8)).unread d9) ((hstage0_9 ((cfg0.slots t 9).cast nbuf0_9)).unread d10) ((hstage0_10 ((cfg0.slots t 10).cast nbuf0_10)).unread d11) ((hstage0_11 ((cfg0.slots t 11).cast nbuf0_11)).unread d12) ((hstage0_12 ((cfg0.slots t 12).cast nbuf0_12)).unread d13) ((hstage0_13 ((cfg0.slots t 13).cast nbuf0_13)).unread d14) ((hstage0_14 ((cfg0.slots t 14).cast nbuf0_14)).unread d15) (((hstage0_15 ((cfg0.slots t 15).cast nbuf0_15)).unread d16), f17, f18, f19, f20, f21, f22, f23)
  iapply (hs' Set.univ _)
  isplitl [H1 H2 H3 H4 H5 H6 H7 H8 H9 H10 H11 H12 H13 H14 H15 H16 H17 H18 H19 H20 H21 H22 H23]
  · isplitl [H1]; · iapply (owns_pt (F := F) c (win0_0.stage (cfg0.slots t 0)) (hstage0_0 ((cfg0.slots t 0).cast nbuf0_0)) d1); iexact H1
    isplitl [H2]; · iapply (owns_pt (F := F) c (win0_1.stage (cfg0.slots t 1)) (hstage0_1 ((cfg0.slots t 1).cast nbuf0_1)) d2); iexact H2
    isplitl [H3]; · iapply (owns_pt (F := F) c (win0_2.stage (cfg0.slots t 2)) (hstage0_2 ((cfg0.slots t 2).cast nbuf0_2)) d3); iexact H3
    isplitl [H4]; · iapply (owns_pt (F := F) c (win0_3.stage (cfg0.slots t 3)) (hstage0_3 ((cfg0.slots t 3).cast nbuf0_3)) d4); iexact H4
    isplitl [H5]; · iapply (owns_pt (F := F) c (win0_4.stage (cfg0.slots t 4)) (hstage0_4 ((cfg0.slots t 4).cast nbuf0_4)) d5); iexact H5
    isplitl [H6]; · iapply (owns_pt (F := F) c (win0_5.stage (cfg0.slots t 5)) (hstage0_5 ((cfg0.slots t 5).cast nbuf0_5)) d6); iexact H6
    isplitl [H7]; · iapply (owns_pt (F := F) c (win0_6.stage (cfg0.slots t 6)) (hstage0_6 ((cfg0.slots t 6).cast nbuf0_6)) d7); iexact H7
    isplitl [H8]; · iapply (owns_pt (F := F) c (win0_7.stage (cfg0.slots t 7)) (hstage0_7 ((cfg0.slots t 7).cast nbuf0_7)) d8); iexact H8
    isplitl [H9]; · iapply (owns_pt (F := F) c (win0_8.stage (cfg0.slots t 8)) (hstage0_8 ((cfg0.slots t 8).cast nbuf0_8)) d9); iexact H9
    isplitl [H10]; · iapply (owns_pt (F := F) c (win0_9.stage (cfg0.slots t 9)) (hstage0_9 ((cfg0.slots t 9).cast nbuf0_9)) d10); iexact H10
    isplitl [H11]; · iapply (owns_pt (F := F) c (win0_10.stage (cfg0.slots t 10)) (hstage0_10 ((cfg0.slots t 10).cast nbuf0_10)) d11); iexact H11
    isplitl [H12]; · iapply (owns_pt (F := F) c (win0_11.stage (cfg0.slots t 11)) (hstage0_11 ((cfg0.slots t 11).cast nbuf0_11)) d12); iexact H12
    isplitl [H13]; · iapply (owns_pt (F := F) c (win0_12.stage (cfg0.slots t 12)) (hstage0_12 ((cfg0.slots t 12).cast nbuf0_12)) d13); iexact H13
    isplitl [H14]; · iapply (owns_pt (F := F) c (win0_13.stage (cfg0.slots t 13)) (hstage0_13 ((cfg0.slots t 13).cast nbuf0_13)) d14); iexact H14
    isplitl [H15]; · iapply (owns_pt (F := F) c (win0_14.stage (cfg0.slots t 14)) (hstage0_14 ((cfg0.slots t 14).cast nbuf0_14)) d15); iexact H15
    isplitl [H16]; · iapply (owns_pt (F := F) c (win0_15.stage (cfg0.slots t 15)) (hstage0_15 ((cfg0.slots t 15).cast nbuf0_15)) d16); iexact H16
    isplitl [H17]; · iexact H17
    isplitl [H18]; · iexact H18
    isplitl [H19]; · iexact H19
    isplitl [H20]; · iexact H20
    isplitl [H21]; · iexact H21
    isplitl [H22]; · iexact H22
    iexact H23
  iintro ⟨H1, H2, H3, H4, H5, H6, H7, H8, H9, H10, H11, H12, H13, H14, H15, H16, H17, H18, H19, H20, H21, H22, H23⟩
  isplitl [Hg H17 H18 H19 H20 H21 H22 H23]
  · isplitl [H17 H18 H19 H20 H21 H22 H23]
    · isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      iexists _; iexact H23
    iexact Hg
  isplitl [HO]; · iexact HO
  isplitl [H1]; · iexists _; iapply (pt_owns (F := F) c (win0_0.stage (cfg0.slots t 0)) (hstage0_0 ((cfg0.slots t 0).cast nbuf0_0)) _); iexact H1
  isplitl [H2]; · iexists _; iapply (pt_owns (F := F) c (win0_1.stage (cfg0.slots t 1)) (hstage0_1 ((cfg0.slots t 1).cast nbuf0_1)) _); iexact H2
  isplitl [H3]; · iexists _; iapply (pt_owns (F := F) c (win0_2.stage (cfg0.slots t 2)) (hstage0_2 ((cfg0.slots t 2).cast nbuf0_2)) _); iexact H3
  isplitl [H4]; · iexists _; iapply (pt_owns (F := F) c (win0_3.stage (cfg0.slots t 3)) (hstage0_3 ((cfg0.slots t 3).cast nbuf0_3)) _); iexact H4
  isplitl [H5]; · iexists _; iapply (pt_owns (F := F) c (win0_4.stage (cfg0.slots t 4)) (hstage0_4 ((cfg0.slots t 4).cast nbuf0_4)) _); iexact H5
  isplitl [H6]; · iexists _; iapply (pt_owns (F := F) c (win0_5.stage (cfg0.slots t 5)) (hstage0_5 ((cfg0.slots t 5).cast nbuf0_5)) _); iexact H6
  isplitl [H7]; · iexists _; iapply (pt_owns (F := F) c (win0_6.stage (cfg0.slots t 6)) (hstage0_6 ((cfg0.slots t 6).cast nbuf0_6)) _); iexact H7
  isplitl [H8]; · iexists _; iapply (pt_owns (F := F) c (win0_7.stage (cfg0.slots t 7)) (hstage0_7 ((cfg0.slots t 7).cast nbuf0_7)) _); iexact H8
  isplitl [H9]; · iexists _; iapply (pt_owns (F := F) c (win0_8.stage (cfg0.slots t 8)) (hstage0_8 ((cfg0.slots t 8).cast nbuf0_8)) _); iexact H9
  isplitl [H10]; · iexists _; iapply (pt_owns (F := F) c (win0_9.stage (cfg0.slots t 9)) (hstage0_9 ((cfg0.slots t 9).cast nbuf0_9)) _); iexact H10
  isplitl [H11]; · iexists _; iapply (pt_owns (F := F) c (win0_10.stage (cfg0.slots t 10)) (hstage0_10 ((cfg0.slots t 10).cast nbuf0_10)) _); iexact H11
  isplitl [H12]; · iexists _; iapply (pt_owns (F := F) c (win0_11.stage (cfg0.slots t 11)) (hstage0_11 ((cfg0.slots t 11).cast nbuf0_11)) _); iexact H12
  isplitl [H13]; · iexists _; iapply (pt_owns (F := F) c (win0_12.stage (cfg0.slots t 12)) (hstage0_12 ((cfg0.slots t 12).cast nbuf0_12)) _); iexact H13
  isplitl [H14]; · iexists _; iapply (pt_owns (F := F) c (win0_13.stage (cfg0.slots t 13)) (hstage0_13 ((cfg0.slots t 13).cast nbuf0_13)) _); iexact H14
  isplitl [H15]; · iexists _; iapply (pt_owns (F := F) c (win0_14.stage (cfg0.slots t 14)) (hstage0_14 ((cfg0.slots t 14).cast nbuf0_14)) _); iexact H15
  iexists _; iapply (pt_owns (F := F) c (win0_15.stage (cfg0.slots t 15)) (hstage0_15 ((cfg0.slots t 15).cast nbuf0_15)) _); iexact H16

/-- Every window forgotten. -/
def allForgot : Fin 16 → Bool := fun _ => true

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem any_obligation (c : Dev nD) :
    BodyObligation (datsAny (F := F) m 0 c) (defs₀ (F := F)) Variants.none () Set.univ allForgot := fun t => by
  rw [bigSep_W0, bigSep_W0, defs₀_row]
  exact triple_restated (any_body m c t) rfl .rfl fun _ => .rfl

set_option backward.isDefEq.respectTransparency.types false in
/-- Every weakly fair execution ends, with every buffer that is no window's array as the region found it and every counter
    at zero. -/
theorem run_any :
    θ_run defs (onTc (τ := τ) (main (F := F))) (s₀ m ρ)
      (fun r => Pipeline.RDat.FramePost (cfgs 0) (fun c => (datsAny m 0 c).toRForget allForgot) (V m) r ∧ r.2.sem = fun _ => 0) :=
  Pipeline.θ_run_frame_forget_shared cfgs (datsAny m) (0 : Fin 1) launch₀0 defs₀ Variants.none allForgot m ρ main
    (fun c => (any_obligation m c).loose) (fun _ _ _ => rfl) (fun _ _ => rfl) (V m) (hmain m Variants.none) (fun _ _ => rfl)
    (fun _ _ => rfl) _ (fun _ h => h)

/-- @main ends, its arguments unchanged, the counters at zero. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    have keep (b : Ref sig .tc) (hb : b ∈ Pipeline.restRefs sig spec0) := (h.1 c).2 b hb
    ⟨(h.1.arr_in c 7 rfl).trans (V_main_arg0 m c),
      (h.1.arr_in c 8 rfl).trans (V_main_arg1 m c),
      (keep main_arg2 (Pipeline.mem_restRefs_of main_arg2 (by decide) (by decide))).trans (V_main_arg2 m c),
      (keep main_arg3 (Pipeline.mem_restRefs_of main_arg3 (by decide) (by decide))).trans (V_main_arg3 m c),
      (h.1.arr_in c 11 rfl).trans (V_main_arg4 m c),
      (keep main_arg5 (Pipeline.mem_restRefs_of main_arg5 (by decide) (by decide))).trans (V_main_arg5 m c),
      (keep main_arg6 (Pipeline.mem_restRefs_of main_arg6 (by decide) (by decide))).trans (V_main_arg6 m c)⟩, h.2⟩) (run_any m ρ)

end Cert.Kernel2Ideal.Body

end
-- ==== Proof.lean ====
import proofs.«01_k».proof.Defs
import proofs.«01_k».proof.Proof.Kernel.Run
import proofs.«01_k».proof.Proof.KernelIdeal.Run
import proofs.«01_k».proof.Proof.Gen.ReferenceIdeal.Run
import proofs.«01_k».proof.Proof.Value
import proofs.«01_k».proof.Proof.Gen.Kernel2
import proofs.«01_k».proof.Proof.Kernel2Ideal.Run
import proofs.«01_k».proof.Proof.Gen.Reference2Ideal.Run

noncomputable section

namespace Cert.Proof

open Idealize.ShloMosaic Idealize.ShloMosaic.TcCoe Idealize.SL.Sem

/-- The reference ends with its arguments unchanged; it declares no semaphore. -/
theorem reference_frame : Cert.quiescent_ReferenceIdeal := fun m g _ =>
  (θ_run Cert.ReferenceIdeal.defs _ _).mono
    (fun _ h => ⟨fun c => (h c).2.2.2, sem_eq_zero_of_no_sems (by decide) _⟩)
    (Cert.ReferenceIdeal.Value.run (F := Ideal) m g)

set_option maxHeartbeats 4000000 in
/-- The second call as printed has the text of its idealization: so have their body tables, -/
theorem second_row : Cert.Kernel2.defs₀ (F := Bits) = Cert.Kernel2Ideal.defs₀ (F := Bits) := by
  unfold Cert.Kernel2.defs₀ Cert.Kernel2Ideal.defs₀
  refine congrArg Defs.onTc (funext fun l => funext fun a => ?_)
  obtain ⟨n, h⟩ := l
  match n, h with
  | 0, h => rfl
  | n + 1, h => exact absurd h (Nat.not_lt.2 (Nat.le_add_left _ _))

theorem second_defs : Cert.Kernel2.defs (F := Bits) = Cert.Kernel2Ideal.defs (F := Bits) := by
  unfold Cert.Kernel2.defs Cert.Kernel2Ideal.defs
  exact congrArg (Pipeline.defs (Cert.Kernel2.pcfgs (F := Bits))) second_row

/-- and its run is the one written over any float values, at the bits. -/
theorem second_frame : Cert.quiescent_Kernel2 := fun m g _ => by
  rw [second_defs]
  exact Cert.Kernel2Ideal.Body.frame_any (F := Bits) m g

/-- The second reference ends with its arguments unchanged. -/
theorem second_reference_frame : Cert.quiescent_Reference2Ideal := fun m g _ =>
  (θ_run Cert.Reference2Ideal.defs _ _).mono
    (fun _ h => ⟨fun c => (h c).2, sem_eq_zero_of_no_sems (by decide) _⟩)
    (Cert.Reference2Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts,
    fun m g _ => Cert.Kernel.Body.frame_any (F := Bits) m g,
    fun m g _ => Cert.KernelIdeal.Body.frame_any (F := Ideal) m g,
    fun m g _ => Cert.KernelIdeal.Body.frame_any (F := Ideal) m g,
    reference_frame,
    fun m g _ => reference_frame m g trivial,
    second_frame,
    fun m g _ => Cert.Kernel2Ideal.Body.frame_any (F := Ideal) m g,
    second_reference_frame,
    ⟨IdealRules.shift_out.by16TwiceStatement _, IdealRules.fence.statement _, IdealRules.shift_out.by16TwiceStatement _, IdealRules.fence.statement _⟩,
    Cert.Value.algebraic,
    trivial⟩

end Cert.Proof

end
